-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x2048 : Shape := ⟨2, ![4096, 2048]⟩
abbrev S256x2048 : Shape := ⟨2, ![256, 2048]⟩
abbrev S256x4096 : Shape := ⟨2, ![256, 4096]⟩
abbrev S16x8x128 : Shape := ⟨3, ![16, 8, 128]⟩
abbrev S16 : Shape := ⟨1, ![16]⟩
abbrev S_ : Shape := ⟨0, ![]⟩
abbrev S1 : Shape := ⟨1, ![1]⟩
abbrev S256x256 : Shape := ⟨2, ![256, 256]⟩
abbrev S256x1024 : Shape := ⟨2, ![256, 1024]⟩
abbrev S1024x2048 : Shape := ⟨2, ![1024, 2048]⟩
abbrev S1x256x2048 : Shape := ⟨3, ![1, 256, 2048]⟩
abbrev S1x1x1 : Shape := ⟨3, ![1, 1, 1]⟩
abbrev S8x128 : Shape := ⟨2, ![8, 128]⟩
abbrev S1x8x128 : Shape := ⟨3, ![1, 8, 128]⟩
abbrev S1x16x8x128 : Shape := ⟨4, ![1, 16, 8, 128]⟩
abbrev S1x1x1x1 : Shape := ⟨4, ![1, 1, 1, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S256x2048, .f32⟩
  | .local _ .vmem, ⟨0, _⟩ => ⟨S4096x256, .f32⟩
  | .local _ .vmem, ⟨1, _⟩ => ⟨S4096x2048, .f32⟩
  | .local _ .vmem, ⟨2, _⟩ => ⟨S256x2048, .f32⟩
  | .local _ .vmem, ⟨3, _⟩ => ⟨S256x4096, .f32⟩
  | .local _ .vmem, ⟨4, _⟩ => ⟨S16x8x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 2 → Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_143 : BitVec 32 := 256#32
  let v211 : BitVec 32 := Scalar.muli v2 c256_i32_143
  ![0, v211.toNat]
def k0_off3 (d0 : Dev nD) (c0_i32_136 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v199 : BitVec 32 := Scalar.addi v2 c0_i32_136
  let c16_i32_137 : BitVec 32 := 16#32
  let c0_i32_138 : BitVec 32 := 0#32
  let v200 : BitVec 1 := Scalar.cmpi .eq c16_i32_137 c0_i32_138
  let c1_i32_139 : BitVec 32 := 1#32
  let v201 : BitVec 32 := Scalar.select v200 c1_i32_139 c16_i32_137
  let v202 : BitVec 32 := Scalar.remsi v199 v201
  let c0_i32_141 : BitVec 32 := 0#32
  let v204 : BitVec 1 := Scalar.cmpi .slt v202 c0_i32_141
  let c0_i32_142 : BitVec 32 := 0#32
  let v205 : BitVec 1 := Scalar.cmpi .slt v201 c0_i32_142
  let v206 : BitVec 1 := Scalar.xori v204 v205
  let c0_i32_140 : BitVec 32 := 0#32
  let v203 : BitVec 1 := Scalar.cmpi .ne v202 c0_i32_140
  let v207 : BitVec 1 := Scalar.andi v206 v203
  let v208 : BitVec 32 := Scalar.addi v202 v201
  let v209 : BitVec 32 := Scalar.select v207 v208 v202
  let c256_i32 : BitVec 32 := 256#32
  let v210 : BitVec 32 := Scalar.muli v209 c256_i32
  let c0_i32_148 : BitVec 32 := 0#32
  ![v210.toNat, 0]
def k0_dev16 (d0 : Dev nD) : Nat :=
  let c0_i32_146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_136 : BitVec 32 := 0#32
  let v199 : BitVec 32 := Scalar.addi v2 c0_i32_136
  let c16_i32_137 : BitVec 32 := 16#32
  let c0_i32_138 : BitVec 32 := 0#32
  let v200 : BitVec 1 := Scalar.cmpi .eq c16_i32_137 c0_i32_138
  let c1_i32_139 : BitVec 32 := 1#32
  let v201 : BitVec 32 := Scalar.select v200 c1_i32_139 c16_i32_137
  let v202 : BitVec 32 := Scalar.remsi v199 v201
  let c0_i32_141 : BitVec 32 := 0#32
  let v204 : BitVec 1 := Scalar.cmpi .slt v202 c0_i32_141
  let c0_i32_142 : BitVec 32 := 0#32
  let v205 : BitVec 1 := Scalar.cmpi .slt v201 c0_i32_142
  let v206 : BitVec 1 := Scalar.xori v204 v205
  let c0_i32_140 : BitVec 32 := 0#32
  let v203 : BitVec 1 := Scalar.cmpi .ne v202 c0_i32_140
  let v207 : BitVec 1 := Scalar.andi v206 v203
  let v208 : BitVec 32 := Scalar.addi v202 v201
  let v209 : BitVec 32 := Scalar.select v207 v208 v202
  let c1_i32_145 : BitVec 32 := 1#32
  let v212 : BitVec 32 := Scalar.muli v209 c1_i32_145
  let v213 : BitVec 32 := Scalar.addi c0_i32_146 v212
  v213.toNat
def k0_dev17 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_149 : BitVec 32 := 1#32
  let v220 : BitVec 32 := Scalar.addi v2 c1_i32_149
  let c16_i32_150 : BitVec 32 := 16#32
  let c0_i32_151 : BitVec 32 := 0#32
  let v221 : BitVec 1 := Scalar.cmpi .eq c16_i32_150 c0_i32_151
  let c1_i32_152 : BitVec 32 := 1#32
  let v222 : BitVec 32 := Scalar.select v221 c1_i32_152 c16_i32_150
  let v223 : BitVec 32 := Scalar.remsi v220 v222
  let c0_i32_154 : BitVec 32 := 0#32
  let v225 : BitVec 1 := Scalar.cmpi .slt v223 c0_i32_154
  let c0_i32_155 : BitVec 32 := 0#32
  let v226 : BitVec 1 := Scalar.cmpi .slt v222 c0_i32_155
  let v227 : BitVec 1 := Scalar.xori v225 v226
  let c0_i32_153 : BitVec 32 := 0#32
  let v224 : BitVec 1 := Scalar.cmpi .ne v223 c0_i32_153
  let v228 : BitVec 1 := Scalar.andi v227 v224
  let v229 : BitVec 32 := Scalar.addi v223 v222
  let v230 : BitVec 32 := Scalar.select v228 v229 v223
  let c1_i32_159 : BitVec 32 := 1#32
  let v233 : BitVec 32 := Scalar.muli v230 c1_i32_159
  let v234 : BitVec 32 := Scalar.addi c0_i32_160 v233
  v234.toNat
def k0_dev18 (d0 : Dev nD) : Nat :=
  let c0_i32_174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_163 : BitVec 32 := 2#32
  let v241 : BitVec 32 := Scalar.addi v2 c2_i32_163
  let c16_i32_164 : BitVec 32 := 16#32
  let c0_i32_165 : BitVec 32 := 0#32
  let v242 : BitVec 1 := Scalar.cmpi .eq c16_i32_164 c0_i32_165
  let c1_i32_166 : BitVec 32 := 1#32
  let v243 : BitVec 32 := Scalar.select v242 c1_i32_166 c16_i32_164
  let v244 : BitVec 32 := Scalar.remsi v241 v243
  let c0_i32_168 : BitVec 32 := 0#32
  let v246 : BitVec 1 := Scalar.cmpi .slt v244 c0_i32_168
  let c0_i32_169 : BitVec 32 := 0#32
  let v247 : BitVec 1 := Scalar.cmpi .slt v243 c0_i32_169
  let v248 : BitVec 1 := Scalar.xori v246 v247
  let c0_i32_167 : BitVec 32 := 0#32
  let v245 : BitVec 1 := Scalar.cmpi .ne v244 c0_i32_167
  let v249 : BitVec 1 := Scalar.andi v248 v245
  let v250 : BitVec 32 := Scalar.addi v244 v243
  let v251 : BitVec 32 := Scalar.select v249 v250 v244
  let c1_i32_173 : BitVec 32 := 1#32
  let v254 : BitVec 32 := Scalar.muli v251 c1_i32_173
  let v255 : BitVec 32 := Scalar.addi c0_i32_174 v254
  v255.toNat
def k0_dev19 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_177 : BitVec 32 := 3#32
  let v262 : BitVec 32 := Scalar.addi v2 c3_i32_177
  let c16_i32_178 : BitVec 32 := 16#32
  let c0_i32_179 : BitVec 32 := 0#32
  let v263 : BitVec 1 := Scalar.cmpi .eq c16_i32_178 c0_i32_179
  let c1_i32_180 : BitVec 32 := 1#32
  let v264 : BitVec 32 := Scalar.select v263 c1_i32_180 c16_i32_178
  let v265 : BitVec 32 := Scalar.remsi v262 v264
  let c0_i32_182 : BitVec 32 := 0#32
  let v267 : BitVec 1 := Scalar.cmpi .slt v265 c0_i32_182
  let c0_i32_183 : BitVec 32 := 0#32
  let v268 : BitVec 1 := Scalar.cmpi .slt v264 c0_i32_183
  let v269 : BitVec 1 := Scalar.xori v267 v268
  let c0_i32_181 : BitVec 32 := 0#32
  let v266 : BitVec 1 := Scalar.cmpi .ne v265 c0_i32_181
  let v270 : BitVec 1 := Scalar.andi v269 v266
  let v271 : BitVec 32 := Scalar.addi v265 v264
  let v272 : BitVec 32 := Scalar.select v270 v271 v265
  let c1_i32_187 : BitVec 32 := 1#32
  let v275 : BitVec 32 := Scalar.muli v272 c1_i32_187
  let v276 : BitVec 32 := Scalar.addi c0_i32_188 v275
  v276.toNat
def k0_dev20 (d0 : Dev nD) : Nat :=
  let c0_i32_202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_191 : BitVec 32 := 4#32
  let v283 : BitVec 32 := Scalar.addi v2 c4_i32_191
  let c16_i32_192 : BitVec 32 := 16#32
  let c0_i32_193 : BitVec 32 := 0#32
  let v284 : BitVec 1 := Scalar.cmpi .eq c16_i32_192 c0_i32_193
  let c1_i32_194 : BitVec 32 := 1#32
  let v285 : BitVec 32 := Scalar.select v284 c1_i32_194 c16_i32_192
  let v286 : BitVec 32 := Scalar.remsi v283 v285
  let c0_i32_196 : BitVec 32 := 0#32
  let v288 : BitVec 1 := Scalar.cmpi .slt v286 c0_i32_196
  let c0_i32_197 : BitVec 32 := 0#32
  let v289 : BitVec 1 := Scalar.cmpi .slt v285 c0_i32_197
  let v290 : BitVec 1 := Scalar.xori v288 v289
  let c0_i32_195 : BitVec 32 := 0#32
  let v287 : BitVec 1 := Scalar.cmpi .ne v286 c0_i32_195
  let v291 : BitVec 1 := Scalar.andi v290 v287
  let v292 : BitVec 32 := Scalar.addi v286 v285
  let v293 : BitVec 32 := Scalar.select v291 v292 v286
  let c1_i32_201 : BitVec 32 := 1#32
  let v296 : BitVec 32 := Scalar.muli v293 c1_i32_201
  let v297 : BitVec 32 := Scalar.addi c0_i32_202 v296
  v297.toNat
def k0_dev21 (d0 : Dev nD) : Nat :=
  let c0_i32_216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_205 : BitVec 32 := 5#32
  let v304 : BitVec 32 := Scalar.addi v2 c5_i32_205
  let c16_i32_206 : BitVec 32 := 16#32
  let c0_i32_207 : BitVec 32 := 0#32
  let v305 : BitVec 1 := Scalar.cmpi .eq c16_i32_206 c0_i32_207
  let c1_i32_208 : BitVec 32 := 1#32
  let v306 : BitVec 32 := Scalar.select v305 c1_i32_208 c16_i32_206
  let v307 : BitVec 32 := Scalar.remsi v304 v306
  let c0_i32_210 : BitVec 32 := 0#32
  let v309 : BitVec 1 := Scalar.cmpi .slt v307 c0_i32_210
  let c0_i32_211 : BitVec 32 := 0#32
  let v310 : BitVec 1 := Scalar.cmpi .slt v306 c0_i32_211
  let v311 : BitVec 1 := Scalar.xori v309 v310
  let c0_i32_209 : BitVec 32 := 0#32
  let v308 : BitVec 1 := Scalar.cmpi .ne v307 c0_i32_209
  let v312 : BitVec 1 := Scalar.andi v311 v308
  let v313 : BitVec 32 := Scalar.addi v307 v306
  let v314 : BitVec 32 := Scalar.select v312 v313 v307
  let c1_i32_215 : BitVec 32 := 1#32
  let v317 : BitVec 32 := Scalar.muli v314 c1_i32_215
  let v318 : BitVec 32 := Scalar.addi c0_i32_216 v317
  v318.toNat
def k0_dev22 (d0 : Dev nD) : Nat :=
  let c0_i32_230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_219 : BitVec 32 := 6#32
  let v325 : BitVec 32 := Scalar.addi v2 c6_i32_219
  let c16_i32_220 : BitVec 32 := 16#32
  let c0_i32_221 : BitVec 32 := 0#32
  let v326 : BitVec 1 := Scalar.cmpi .eq c16_i32_220 c0_i32_221
  let c1_i32_222 : BitVec 32 := 1#32
  let v327 : BitVec 32 := Scalar.select v326 c1_i32_222 c16_i32_220
  let v328 : BitVec 32 := Scalar.remsi v325 v327
  let c0_i32_224 : BitVec 32 := 0#32
  let v330 : BitVec 1 := Scalar.cmpi .slt v328 c0_i32_224
  let c0_i32_225 : BitVec 32 := 0#32
  let v331 : BitVec 1 := Scalar.cmpi .slt v327 c0_i32_225
  let v332 : BitVec 1 := Scalar.xori v330 v331
  let c0_i32_223 : BitVec 32 := 0#32
  let v329 : BitVec 1 := Scalar.cmpi .ne v328 c0_i32_223
  let v333 : BitVec 1 := Scalar.andi v332 v329
  let v334 : BitVec 32 := Scalar.addi v328 v327
  let v335 : BitVec 32 := Scalar.select v333 v334 v328
  let c1_i32_229 : BitVec 32 := 1#32
  let v338 : BitVec 32 := Scalar.muli v335 c1_i32_229
  let v339 : BitVec 32 := Scalar.addi c0_i32_230 v338
  v339.toNat
def k0_dev23 (d0 : Dev nD) : Nat :=
  let c0_i32_244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_233 : BitVec 32 := 7#32
  let v346 : BitVec 32 := Scalar.addi v2 c7_i32_233
  let c16_i32_234 : BitVec 32 := 16#32
  let c0_i32_235 : BitVec 32 := 0#32
  let v347 : BitVec 1 := Scalar.cmpi .eq c16_i32_234 c0_i32_235
  let c1_i32_236 : BitVec 32 := 1#32
  let v348 : BitVec 32 := Scalar.select v347 c1_i32_236 c16_i32_234
  let v349 : BitVec 32 := Scalar.remsi v346 v348
  let c0_i32_238 : BitVec 32 := 0#32
  let v351 : BitVec 1 := Scalar.cmpi .slt v349 c0_i32_238
  let c0_i32_239 : BitVec 32 := 0#32
  let v352 : BitVec 1 := Scalar.cmpi .slt v348 c0_i32_239
  let v353 : BitVec 1 := Scalar.xori v351 v352
  let c0_i32_237 : BitVec 32 := 0#32
  let v350 : BitVec 1 := Scalar.cmpi .ne v349 c0_i32_237
  let v354 : BitVec 1 := Scalar.andi v353 v350
  let v355 : BitVec 32 := Scalar.addi v349 v348
  let v356 : BitVec 32 := Scalar.select v354 v355 v349
  let c1_i32_243 : BitVec 32 := 1#32
  let v359 : BitVec 32 := Scalar.muli v356 c1_i32_243
  let v360 : BitVec 32 := Scalar.addi c0_i32_244 v359
  v360.toNat
def k0_dev24 (d0 : Dev nD) : Nat :=
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_247 : BitVec 32 := 8#32
  let v367 : BitVec 32 := Scalar.addi v2 c8_i32_247
  let c16_i32_248 : BitVec 32 := 16#32
  let c0_i32_249 : BitVec 32 := 0#32
  let v368 : BitVec 1 := Scalar.cmpi .eq c16_i32_248 c0_i32_249
  let c1_i32_250 : BitVec 32 := 1#32
  let v369 : BitVec 32 := Scalar.select v368 c1_i32_250 c16_i32_248
  let v370 : BitVec 32 := Scalar.remsi v367 v369
  let c0_i32_252 : BitVec 32 := 0#32
  let v372 : BitVec 1 := Scalar.cmpi .slt v370 c0_i32_252
  let c0_i32_253 : BitVec 32 := 0#32
  let v373 : BitVec 1 := Scalar.cmpi .slt v369 c0_i32_253
  let v374 : BitVec 1 := Scalar.xori v372 v373
  let c0_i32_251 : BitVec 32 := 0#32
  let v371 : BitVec 1 := Scalar.cmpi .ne v370 c0_i32_251
  let v375 : BitVec 1 := Scalar.andi v374 v371
  let v376 : BitVec 32 := Scalar.addi v370 v369
  let v377 : BitVec 32 := Scalar.select v375 v376 v370
  let c1_i32_257 : BitVec 32 := 1#32
  let v380 : BitVec 32 := Scalar.muli v377 c1_i32_257
  let v381 : BitVec 32 := Scalar.addi c0_i32_258 v380
  v381.toNat
def k0_dev25 (d0 : Dev nD) : Nat :=
  let c0_i32_272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_261 : BitVec 32 := 9#32
  let v388 : BitVec 32 := Scalar.addi v2 c9_i32_261
  let c16_i32_262 : BitVec 32 := 16#32
  let c0_i32_263 : BitVec 32 := 0#32
  let v389 : BitVec 1 := Scalar.cmpi .eq c16_i32_262 c0_i32_263
  let c1_i32_264 : BitVec 32 := 1#32
  let v390 : BitVec 32 := Scalar.select v389 c1_i32_264 c16_i32_262
  let v391 : BitVec 32 := Scalar.remsi v388 v390
  let c0_i32_266 : BitVec 32 := 0#32
  let v393 : BitVec 1 := Scalar.cmpi .slt v391 c0_i32_266
  let c0_i32_267 : BitVec 32 := 0#32
  let v394 : BitVec 1 := Scalar.cmpi .slt v390 c0_i32_267
  let v395 : BitVec 1 := Scalar.xori v393 v394
  let c0_i32_265 : BitVec 32 := 0#32
  let v392 : BitVec 1 := Scalar.cmpi .ne v391 c0_i32_265
  let v396 : BitVec 1 := Scalar.andi v395 v392
  let v397 : BitVec 32 := Scalar.addi v391 v390
  let v398 : BitVec 32 := Scalar.select v396 v397 v391
  let c1_i32_271 : BitVec 32 := 1#32
  let v401 : BitVec 32 := Scalar.muli v398 c1_i32_271
  let v402 : BitVec 32 := Scalar.addi c0_i32_272 v401
  v402.toNat
def k0_dev26 (d0 : Dev nD) : Nat :=
  let c0_i32_286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_275 : BitVec 32 := 10#32
  let v409 : BitVec 32 := Scalar.addi v2 c10_i32_275
  let c16_i32_276 : BitVec 32 := 16#32
  let c0_i32_277 : BitVec 32 := 0#32
  let v410 : BitVec 1 := Scalar.cmpi .eq c16_i32_276 c0_i32_277
  let c1_i32_278 : BitVec 32 := 1#32
  let v411 : BitVec 32 := Scalar.select v410 c1_i32_278 c16_i32_276
  let v412 : BitVec 32 := Scalar.remsi v409 v411
  let c0_i32_280 : BitVec 32 := 0#32
  let v414 : BitVec 1 := Scalar.cmpi .slt v412 c0_i32_280
  let c0_i32_281 : BitVec 32 := 0#32
  let v415 : BitVec 1 := Scalar.cmpi .slt v411 c0_i32_281
  let v416 : BitVec 1 := Scalar.xori v414 v415
  let c0_i32_279 : BitVec 32 := 0#32
  let v413 : BitVec 1 := Scalar.cmpi .ne v412 c0_i32_279
  let v417 : BitVec 1 := Scalar.andi v416 v413
  let v418 : BitVec 32 := Scalar.addi v412 v411
  let v419 : BitVec 32 := Scalar.select v417 v418 v412
  let c1_i32_285 : BitVec 32 := 1#32
  let v422 : BitVec 32 := Scalar.muli v419 c1_i32_285
  let v423 : BitVec 32 := Scalar.addi c0_i32_286 v422
  v423.toNat
def k0_dev27 (d0 : Dev nD) : Nat :=
  let c0_i32_300 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_289 : BitVec 32 := 11#32
  let v430 : BitVec 32 := Scalar.addi v2 c11_i32_289
  let c16_i32_290 : BitVec 32 := 16#32
  let c0_i32_291 : BitVec 32 := 0#32
  let v431 : BitVec 1 := Scalar.cmpi .eq c16_i32_290 c0_i32_291
  let c1_i32_292 : BitVec 32 := 1#32
  let v432 : BitVec 32 := Scalar.select v431 c1_i32_292 c16_i32_290
  let v433 : BitVec 32 := Scalar.remsi v430 v432
  let c0_i32_294 : BitVec 32 := 0#32
  let v435 : BitVec 1 := Scalar.cmpi .slt v433 c0_i32_294
  let c0_i32_295 : BitVec 32 := 0#32
  let v436 : BitVec 1 := Scalar.cmpi .slt v432 c0_i32_295
  let v437 : BitVec 1 := Scalar.xori v435 v436
  let c0_i32_293 : BitVec 32 := 0#32
  let v434 : BitVec 1 := Scalar.cmpi .ne v433 c0_i32_293
  let v438 : BitVec 1 := Scalar.andi v437 v434
  let v439 : BitVec 32 := Scalar.addi v433 v432
  let v440 : BitVec 32 := Scalar.select v438 v439 v433
  let c1_i32_299 : BitVec 32 := 1#32
  let v443 : BitVec 32 := Scalar.muli v440 c1_i32_299
  let v444 : BitVec 32 := Scalar.addi c0_i32_300 v443
  v444.toNat
def k0_dev28 (d0 : Dev nD) : Nat :=
  let c0_i32_314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_303 : BitVec 32 := 12#32
  let v451 : BitVec 32 := Scalar.addi v2 c12_i32_303
  let c16_i32_304 : BitVec 32 := 16#32
  let c0_i32_305 : BitVec 32 := 0#32
  let v452 : BitVec 1 := Scalar.cmpi .eq c16_i32_304 c0_i32_305
  let c1_i32_306 : BitVec 32 := 1#32
  let v453 : BitVec 32 := Scalar.select v452 c1_i32_306 c16_i32_304
  let v454 : BitVec 32 := Scalar.remsi v451 v453
  let c0_i32_308 : BitVec 32 := 0#32
  let v456 : BitVec 1 := Scalar.cmpi .slt v454 c0_i32_308
  let c0_i32_309 : BitVec 32 := 0#32
  let v457 : BitVec 1 := Scalar.cmpi .slt v453 c0_i32_309
  let v458 : BitVec 1 := Scalar.xori v456 v457
  let c0_i32_307 : BitVec 32 := 0#32
  let v455 : BitVec 1 := Scalar.cmpi .ne v454 c0_i32_307
  let v459 : BitVec 1 := Scalar.andi v458 v455
  let v460 : BitVec 32 := Scalar.addi v454 v453
  let v461 : BitVec 32 := Scalar.select v459 v460 v454
  let c1_i32_313 : BitVec 32 := 1#32
  let v464 : BitVec 32 := Scalar.muli v461 c1_i32_313
  let v465 : BitVec 32 := Scalar.addi c0_i32_314 v464
  v465.toNat
def k0_dev29 (d0 : Dev nD) : Nat :=
  let c0_i32_328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_317 : BitVec 32 := 13#32
  let v472 : BitVec 32 := Scalar.addi v2 c13_i32_317
  let c16_i32_318 : BitVec 32 := 16#32
  let c0_i32_319 : BitVec 32 := 0#32
  let v473 : BitVec 1 := Scalar.cmpi .eq c16_i32_318 c0_i32_319
  let c1_i32_320 : BitVec 32 := 1#32
  let v474 : BitVec 32 := Scalar.select v473 c1_i32_320 c16_i32_318
  let v475 : BitVec 32 := Scalar.remsi v472 v474
  let c0_i32_322 : BitVec 32 := 0#32
  let v477 : BitVec 1 := Scalar.cmpi .slt v475 c0_i32_322
  let c0_i32_323 : BitVec 32 := 0#32
  let v478 : BitVec 1 := Scalar.cmpi .slt v474 c0_i32_323
  let v479 : BitVec 1 := Scalar.xori v477 v478
  let c0_i32_321 : BitVec 32 := 0#32
  let v476 : BitVec 1 := Scalar.cmpi .ne v475 c0_i32_321
  let v480 : BitVec 1 := Scalar.andi v479 v476
  let v481 : BitVec 32 := Scalar.addi v475 v474
  let v482 : BitVec 32 := Scalar.select v480 v481 v475
  let c1_i32_327 : BitVec 32 := 1#32
  let v485 : BitVec 32 := Scalar.muli v482 c1_i32_327
  let v486 : BitVec 32 := Scalar.addi c0_i32_328 v485
  v486.toNat
def k0_dev30 (d0 : Dev nD) : Nat :=
  let c0_i32_342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_331 : BitVec 32 := 14#32
  let v493 : BitVec 32 := Scalar.addi v2 c14_i32_331
  let c16_i32_332 : BitVec 32 := 16#32
  let c0_i32_333 : BitVec 32 := 0#32
  let v494 : BitVec 1 := Scalar.cmpi .eq c16_i32_332 c0_i32_333
  let c1_i32_334 : BitVec 32 := 1#32
  let v495 : BitVec 32 := Scalar.select v494 c1_i32_334 c16_i32_332
  let v496 : BitVec 32 := Scalar.remsi v493 v495
  let c0_i32_336 : BitVec 32 := 0#32
  let v498 : BitVec 1 := Scalar.cmpi .slt v496 c0_i32_336
  let c0_i32_337 : BitVec 32 := 0#32
  let v499 : BitVec 1 := Scalar.cmpi .slt v495 c0_i32_337
  let v500 : BitVec 1 := Scalar.xori v498 v499
  let c0_i32_335 : BitVec 32 := 0#32
  let v497 : BitVec 1 := Scalar.cmpi .ne v496 c0_i32_335
  let v501 : BitVec 1 := Scalar.andi v500 v497
  let v502 : BitVec 32 := Scalar.addi v496 v495
  let v503 : BitVec 32 := Scalar.select v501 v502 v496
  let c1_i32_341 : BitVec 32 := 1#32
  let v506 : BitVec 32 := Scalar.muli v503 c1_i32_341
  let v507 : BitVec 32 := Scalar.addi c0_i32_342 v506
  v507.toNat
def k0_dev31 (d0 : Dev nD) : Nat :=
  let c0_i32_356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_345 : BitVec 32 := 15#32
  let v514 : BitVec 32 := Scalar.addi v2 c15_i32_345
  let c16_i32_346 : BitVec 32 := 16#32
  let c0_i32_347 : BitVec 32 := 0#32
  let v515 : BitVec 1 := Scalar.cmpi .eq c16_i32_346 c0_i32_347
  let c1_i32_348 : BitVec 32 := 1#32
  let v516 : BitVec 32 := Scalar.select v515 c1_i32_348 c16_i32_346
  let v517 : BitVec 32 := Scalar.remsi v514 v516
  let c0_i32_350 : BitVec 32 := 0#32
  let v519 : BitVec 1 := Scalar.cmpi .slt v517 c0_i32_350
  let c0_i32_351 : BitVec 32 := 0#32
  let v520 : BitVec 1 := Scalar.cmpi .slt v516 c0_i32_351
  let v521 : BitVec 1 := Scalar.xori v519 v520
  let c0_i32_349 : BitVec 32 := 0#32
  let v518 : BitVec 1 := Scalar.cmpi .ne v517 c0_i32_349
  let v522 : BitVec 1 := Scalar.andi v521 v518
  let v523 : BitVec 32 := Scalar.addi v517 v516
  let v524 : BitVec 32 := Scalar.select v522 v523 v517
  let c1_i32_355 : BitVec 32 := 1#32
  let v527 : BitVec 32 := Scalar.muli v524 c1_i32_355
  let v528 : BitVec 32 := Scalar.addi c0_i32_356 v527
  v528.toNat
def k0_dev32 (d0 : Dev nD) : Nat :=
  let c0_i32_603 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_591 : BitVec 32 := 1#32
  let v737 : BitVec 32 := Scalar.addi v2 c1_i32_591
  let c16_i32_592 : BitVec 32 := 16#32
  let c0_i32_593 : BitVec 32 := 0#32
  let v738 : BitVec 1 := Scalar.cmpi .eq c16_i32_592 c0_i32_593
  let c1_i32_594 : BitVec 32 := 1#32
  let v739 : BitVec 32 := Scalar.select v738 c1_i32_594 c16_i32_592
  let v740 : BitVec 32 := Scalar.remsi v737 v739
  let c0_i32_596 : BitVec 32 := 0#32
  let v742 : BitVec 1 := Scalar.cmpi .slt v740 c0_i32_596
  let c0_i32_597 : BitVec 32 := 0#32
  let v743 : BitVec 1 := Scalar.cmpi .slt v739 c0_i32_597
  let v744 : BitVec 1 := Scalar.xori v742 v743
  let c0_i32_595 : BitVec 32 := 0#32
  let v741 : BitVec 1 := Scalar.cmpi .ne v740 c0_i32_595
  let v745 : BitVec 1 := Scalar.andi v744 v741
  let v746 : BitVec 32 := Scalar.addi v740 v739
  let v747 : BitVec 32 := Scalar.select v745 v746 v740
  let c1_i32_602 : BitVec 32 := 1#32
  let v748 : BitVec 32 := Scalar.muli v747 c1_i32_602
  let v749 : BitVec 32 := Scalar.addi c0_i32_603 v748
  v749.toNat
def k0_dev33 (d0 : Dev nD) : Nat :=
  let c0_i32_620 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_608 : BitVec 32 := 2#32
  let v758 : BitVec 32 := Scalar.addi v2 c2_i32_608
  let c16_i32_609 : BitVec 32 := 16#32
  let c0_i32_610 : BitVec 32 := 0#32
  let v759 : BitVec 1 := Scalar.cmpi .eq c16_i32_609 c0_i32_610
  let c1_i32_611 : BitVec 32 := 1#32
  let v760 : BitVec 32 := Scalar.select v759 c1_i32_611 c16_i32_609
  let v761 : BitVec 32 := Scalar.remsi v758 v760
  let c0_i32_613 : BitVec 32 := 0#32
  let v763 : BitVec 1 := Scalar.cmpi .slt v761 c0_i32_613
  let c0_i32_614 : BitVec 32 := 0#32
  let v764 : BitVec 1 := Scalar.cmpi .slt v760 c0_i32_614
  let v765 : BitVec 1 := Scalar.xori v763 v764
  let c0_i32_612 : BitVec 32 := 0#32
  let v762 : BitVec 1 := Scalar.cmpi .ne v761 c0_i32_612
  let v766 : BitVec 1 := Scalar.andi v765 v762
  let v767 : BitVec 32 := Scalar.addi v761 v760
  let v768 : BitVec 32 := Scalar.select v766 v767 v761
  let c1_i32_619 : BitVec 32 := 1#32
  let v769 : BitVec 32 := Scalar.muli v768 c1_i32_619
  let v770 : BitVec 32 := Scalar.addi c0_i32_620 v769
  v770.toNat
def k0_dev34 (d0 : Dev nD) : Nat :=
  let c0_i32_637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_625 : BitVec 32 := 3#32
  let v779 : BitVec 32 := Scalar.addi v2 c3_i32_625
  let c16_i32_626 : BitVec 32 := 16#32
  let c0_i32_627 : BitVec 32 := 0#32
  let v780 : BitVec 1 := Scalar.cmpi .eq c16_i32_626 c0_i32_627
  let c1_i32_628 : BitVec 32 := 1#32
  let v781 : BitVec 32 := Scalar.select v780 c1_i32_628 c16_i32_626
  let v782 : BitVec 32 := Scalar.remsi v779 v781
  let c0_i32_630 : BitVec 32 := 0#32
  let v784 : BitVec 1 := Scalar.cmpi .slt v782 c0_i32_630
  let c0_i32_631 : BitVec 32 := 0#32
  let v785 : BitVec 1 := Scalar.cmpi .slt v781 c0_i32_631
  let v786 : BitVec 1 := Scalar.xori v784 v785
  let c0_i32_629 : BitVec 32 := 0#32
  let v783 : BitVec 1 := Scalar.cmpi .ne v782 c0_i32_629
  let v787 : BitVec 1 := Scalar.andi v786 v783
  let v788 : BitVec 32 := Scalar.addi v782 v781
  let v789 : BitVec 32 := Scalar.select v787 v788 v782
  let c1_i32_636 : BitVec 32 := 1#32
  let v790 : BitVec 32 := Scalar.muli v789 c1_i32_636
  let v791 : BitVec 32 := Scalar.addi c0_i32_637 v790
  v791.toNat
def k0_dev35 (d0 : Dev nD) : Nat :=
  let c0_i32_654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_642 : BitVec 32 := 4#32
  let v800 : BitVec 32 := Scalar.addi v2 c4_i32_642
  let c16_i32_643 : BitVec 32 := 16#32
  let c0_i32_644 : BitVec 32 := 0#32
  let v801 : BitVec 1 := Scalar.cmpi .eq c16_i32_643 c0_i32_644
  let c1_i32_645 : BitVec 32 := 1#32
  let v802 : BitVec 32 := Scalar.select v801 c1_i32_645 c16_i32_643
  let v803 : BitVec 32 := Scalar.remsi v800 v802
  let c0_i32_647 : BitVec 32 := 0#32
  let v805 : BitVec 1 := Scalar.cmpi .slt v803 c0_i32_647
  let c0_i32_648 : BitVec 32 := 0#32
  let v806 : BitVec 1 := Scalar.cmpi .slt v802 c0_i32_648
  let v807 : BitVec 1 := Scalar.xori v805 v806
  let c0_i32_646 : BitVec 32 := 0#32
  let v804 : BitVec 1 := Scalar.cmpi .ne v803 c0_i32_646
  let v808 : BitVec 1 := Scalar.andi v807 v804
  let v809 : BitVec 32 := Scalar.addi v803 v802
  let v810 : BitVec 32 := Scalar.select v808 v809 v803
  let c1_i32_653 : BitVec 32 := 1#32
  let v811 : BitVec 32 := Scalar.muli v810 c1_i32_653
  let v812 : BitVec 32 := Scalar.addi c0_i32_654 v811
  v812.toNat
def k0_dev36 (d0 : Dev nD) : Nat :=
  let c0_i32_671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_659 : BitVec 32 := 5#32
  let v821 : BitVec 32 := Scalar.addi v2 c5_i32_659
  let c16_i32_660 : BitVec 32 := 16#32
  let c0_i32_661 : BitVec 32 := 0#32
  let v822 : BitVec 1 := Scalar.cmpi .eq c16_i32_660 c0_i32_661
  let c1_i32_662 : BitVec 32 := 1#32
  let v823 : BitVec 32 := Scalar.select v822 c1_i32_662 c16_i32_660
  let v824 : BitVec 32 := Scalar.remsi v821 v823
  let c0_i32_664 : BitVec 32 := 0#32
  let v826 : BitVec 1 := Scalar.cmpi .slt v824 c0_i32_664
  let c0_i32_665 : BitVec 32 := 0#32
  let v827 : BitVec 1 := Scalar.cmpi .slt v823 c0_i32_665
  let v828 : BitVec 1 := Scalar.xori v826 v827
  let c0_i32_663 : BitVec 32 := 0#32
  let v825 : BitVec 1 := Scalar.cmpi .ne v824 c0_i32_663
  let v829 : BitVec 1 := Scalar.andi v828 v825
  let v830 : BitVec 32 := Scalar.addi v824 v823
  let v831 : BitVec 32 := Scalar.select v829 v830 v824
  let c1_i32_670 : BitVec 32 := 1#32
  let v832 : BitVec 32 := Scalar.muli v831 c1_i32_670
  let v833 : BitVec 32 := Scalar.addi c0_i32_671 v832
  v833.toNat
def k0_dev37 (d0 : Dev nD) : Nat :=
  let c0_i32_688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_676 : BitVec 32 := 6#32
  let v842 : BitVec 32 := Scalar.addi v2 c6_i32_676
  let c16_i32_677 : BitVec 32 := 16#32
  let c0_i32_678 : BitVec 32 := 0#32
  let v843 : BitVec 1 := Scalar.cmpi .eq c16_i32_677 c0_i32_678
  let c1_i32_679 : BitVec 32 := 1#32
  let v844 : BitVec 32 := Scalar.select v843 c1_i32_679 c16_i32_677
  let v845 : BitVec 32 := Scalar.remsi v842 v844
  let c0_i32_681 : BitVec 32 := 0#32
  let v847 : BitVec 1 := Scalar.cmpi .slt v845 c0_i32_681
  let c0_i32_682 : BitVec 32 := 0#32
  let v848 : BitVec 1 := Scalar.cmpi .slt v844 c0_i32_682
  let v849 : BitVec 1 := Scalar.xori v847 v848
  let c0_i32_680 : BitVec 32 := 0#32
  let v846 : BitVec 1 := Scalar.cmpi .ne v845 c0_i32_680
  let v850 : BitVec 1 := Scalar.andi v849 v846
  let v851 : BitVec 32 := Scalar.addi v845 v844
  let v852 : BitVec 32 := Scalar.select v850 v851 v845
  let c1_i32_687 : BitVec 32 := 1#32
  let v853 : BitVec 32 := Scalar.muli v852 c1_i32_687
  let v854 : BitVec 32 := Scalar.addi c0_i32_688 v853
  v854.toNat
def k0_dev38 (d0 : Dev nD) : Nat :=
  let c0_i32_705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_693 : BitVec 32 := 7#32
  let v863 : BitVec 32 := Scalar.addi v2 c7_i32_693
  let c16_i32_694 : BitVec 32 := 16#32
  let c0_i32_695 : BitVec 32 := 0#32
  let v864 : BitVec 1 := Scalar.cmpi .eq c16_i32_694 c0_i32_695
  let c1_i32_696 : BitVec 32 := 1#32
  let v865 : BitVec 32 := Scalar.select v864 c1_i32_696 c16_i32_694
  let v866 : BitVec 32 := Scalar.remsi v863 v865
  let c0_i32_698 : BitVec 32 := 0#32
  let v868 : BitVec 1 := Scalar.cmpi .slt v866 c0_i32_698
  let c0_i32_699 : BitVec 32 := 0#32
  let v869 : BitVec 1 := Scalar.cmpi .slt v865 c0_i32_699
  let v870 : BitVec 1 := Scalar.xori v868 v869
  let c0_i32_697 : BitVec 32 := 0#32
  let v867 : BitVec 1 := Scalar.cmpi .ne v866 c0_i32_697
  let v871 : BitVec 1 := Scalar.andi v870 v867
  let v872 : BitVec 32 := Scalar.addi v866 v865
  let v873 : BitVec 32 := Scalar.select v871 v872 v866
  let c1_i32_704 : BitVec 32 := 1#32
  let v874 : BitVec 32 := Scalar.muli v873 c1_i32_704
  let v875 : BitVec 32 := Scalar.addi c0_i32_705 v874
  v875.toNat
def k0_dev39 (d0 : Dev nD) : Nat :=
  let c0_i32_722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_710 : BitVec 32 := 8#32
  let v884 : BitVec 32 := Scalar.addi v2 c8_i32_710
  let c16_i32_711 : BitVec 32 := 16#32
  let c0_i32_712 : BitVec 32 := 0#32
  let v885 : BitVec 1 := Scalar.cmpi .eq c16_i32_711 c0_i32_712
  let c1_i32_713 : BitVec 32 := 1#32
  let v886 : BitVec 32 := Scalar.select v885 c1_i32_713 c16_i32_711
  let v887 : BitVec 32 := Scalar.remsi v884 v886
  let c0_i32_715 : BitVec 32 := 0#32
  let v889 : BitVec 1 := Scalar.cmpi .slt v887 c0_i32_715
  let c0_i32_716 : BitVec 32 := 0#32
  let v890 : BitVec 1 := Scalar.cmpi .slt v886 c0_i32_716
  let v891 : BitVec 1 := Scalar.xori v889 v890
  let c0_i32_714 : BitVec 32 := 0#32
  let v888 : BitVec 1 := Scalar.cmpi .ne v887 c0_i32_714
  let v892 : BitVec 1 := Scalar.andi v891 v888
  let v893 : BitVec 32 := Scalar.addi v887 v886
  let v894 : BitVec 32 := Scalar.select v892 v893 v887
  let c1_i32_721 : BitVec 32 := 1#32
  let v895 : BitVec 32 := Scalar.muli v894 c1_i32_721
  let v896 : BitVec 32 := Scalar.addi c0_i32_722 v895
  v896.toNat
def k0_dev40 (d0 : Dev nD) : Nat :=
  let c0_i32_739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_727 : BitVec 32 := 9#32
  let v905 : BitVec 32 := Scalar.addi v2 c9_i32_727
  let c16_i32_728 : BitVec 32 := 16#32
  let c0_i32_729 : BitVec 32 := 0#32
  let v906 : BitVec 1 := Scalar.cmpi .eq c16_i32_728 c0_i32_729
  let c1_i32_730 : BitVec 32 := 1#32
  let v907 : BitVec 32 := Scalar.select v906 c1_i32_730 c16_i32_728
  let v908 : BitVec 32 := Scalar.remsi v905 v907
  let c0_i32_732 : BitVec 32 := 0#32
  let v910 : BitVec 1 := Scalar.cmpi .slt v908 c0_i32_732
  let c0_i32_733 : BitVec 32 := 0#32
  let v911 : BitVec 1 := Scalar.cmpi .slt v907 c0_i32_733
  let v912 : BitVec 1 := Scalar.xori v910 v911
  let c0_i32_731 : BitVec 32 := 0#32
  let v909 : BitVec 1 := Scalar.cmpi .ne v908 c0_i32_731
  let v913 : BitVec 1 := Scalar.andi v912 v909
  let v914 : BitVec 32 := Scalar.addi v908 v907
  let v915 : BitVec 32 := Scalar.select v913 v914 v908
  let c1_i32_738 : BitVec 32 := 1#32
  let v916 : BitVec 32 := Scalar.muli v915 c1_i32_738
  let v917 : BitVec 32 := Scalar.addi c0_i32_739 v916
  v917.toNat
def k0_dev41 (d0 : Dev nD) : Nat :=
  let c0_i32_756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_744 : BitVec 32 := 10#32
  let v926 : BitVec 32 := Scalar.addi v2 c10_i32_744
  let c16_i32_745 : BitVec 32 := 16#32
  let c0_i32_746 : BitVec 32 := 0#32
  let v927 : BitVec 1 := Scalar.cmpi .eq c16_i32_745 c0_i32_746
  let c1_i32_747 : BitVec 32 := 1#32
  let v928 : BitVec 32 := Scalar.select v927 c1_i32_747 c16_i32_745
  let v929 : BitVec 32 := Scalar.remsi v926 v928
  let c0_i32_749 : BitVec 32 := 0#32
  let v931 : BitVec 1 := Scalar.cmpi .slt v929 c0_i32_749
  let c0_i32_750 : BitVec 32 := 0#32
  let v932 : BitVec 1 := Scalar.cmpi .slt v928 c0_i32_750
  let v933 : BitVec 1 := Scalar.xori v931 v932
  let c0_i32_748 : BitVec 32 := 0#32
  let v930 : BitVec 1 := Scalar.cmpi .ne v929 c0_i32_748
  let v934 : BitVec 1 := Scalar.andi v933 v930
  let v935 : BitVec 32 := Scalar.addi v929 v928
  let v936 : BitVec 32 := Scalar.select v934 v935 v929
  let c1_i32_755 : BitVec 32 := 1#32
  let v937 : BitVec 32 := Scalar.muli v936 c1_i32_755
  let v938 : BitVec 32 := Scalar.addi c0_i32_756 v937
  v938.toNat
def k0_dev42 (d0 : Dev nD) : Nat :=
  let c0_i32_773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_761 : BitVec 32 := 11#32
  let v947 : BitVec 32 := Scalar.addi v2 c11_i32_761
  let c16_i32_762 : BitVec 32 := 16#32
  let c0_i32_763 : BitVec 32 := 0#32
  let v948 : BitVec 1 := Scalar.cmpi .eq c16_i32_762 c0_i32_763
  let c1_i32_764 : BitVec 32 := 1#32
  let v949 : BitVec 32 := Scalar.select v948 c1_i32_764 c16_i32_762
  let v950 : BitVec 32 := Scalar.remsi v947 v949
  let c0_i32_766 : BitVec 32 := 0#32
  let v952 : BitVec 1 := Scalar.cmpi .slt v950 c0_i32_766
  let c0_i32_767 : BitVec 32 := 0#32
  let v953 : BitVec 1 := Scalar.cmpi .slt v949 c0_i32_767
  let v954 : BitVec 1 := Scalar.xori v952 v953
  let c0_i32_765 : BitVec 32 := 0#32
  let v951 : BitVec 1 := Scalar.cmpi .ne v950 c0_i32_765
  let v955 : BitVec 1 := Scalar.andi v954 v951
  let v956 : BitVec 32 := Scalar.addi v950 v949
  let v957 : BitVec 32 := Scalar.select v955 v956 v950
  let c1_i32_772 : BitVec 32 := 1#32
  let v958 : BitVec 32 := Scalar.muli v957 c1_i32_772
  let v959 : BitVec 32 := Scalar.addi c0_i32_773 v958
  v959.toNat
def k0_dev43 (d0 : Dev nD) : Nat :=
  let c0_i32_790 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_778 : BitVec 32 := 12#32
  let v968 : BitVec 32 := Scalar.addi v2 c12_i32_778
  let c16_i32_779 : BitVec 32 := 16#32
  let c0_i32_780 : BitVec 32 := 0#32
  let v969 : BitVec 1 := Scalar.cmpi .eq c16_i32_779 c0_i32_780
  let c1_i32_781 : BitVec 32 := 1#32
  let v970 : BitVec 32 := Scalar.select v969 c1_i32_781 c16_i32_779
  let v971 : BitVec 32 := Scalar.remsi v968 v970
  let c0_i32_783 : BitVec 32 := 0#32
  let v973 : BitVec 1 := Scalar.cmpi .slt v971 c0_i32_783
  let c0_i32_784 : BitVec 32 := 0#32
  let v974 : BitVec 1 := Scalar.cmpi .slt v970 c0_i32_784
  let v975 : BitVec 1 := Scalar.xori v973 v974
  let c0_i32_782 : BitVec 32 := 0#32
  let v972 : BitVec 1 := Scalar.cmpi .ne v971 c0_i32_782
  let v976 : BitVec 1 := Scalar.andi v975 v972
  let v977 : BitVec 32 := Scalar.addi v971 v970
  let v978 : BitVec 32 := Scalar.select v976 v977 v971
  let c1_i32_789 : BitVec 32 := 1#32
  let v979 : BitVec 32 := Scalar.muli v978 c1_i32_789
  let v980 : BitVec 32 := Scalar.addi c0_i32_790 v979
  v980.toNat
def k0_dev44 (d0 : Dev nD) : Nat :=
  let c0_i32_807 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_795 : BitVec 32 := 13#32
  let v989 : BitVec 32 := Scalar.addi v2 c13_i32_795
  let c16_i32_796 : BitVec 32 := 16#32
  let c0_i32_797 : BitVec 32 := 0#32
  let v990 : BitVec 1 := Scalar.cmpi .eq c16_i32_796 c0_i32_797
  let c1_i32_798 : BitVec 32 := 1#32
  let v991 : BitVec 32 := Scalar.select v990 c1_i32_798 c16_i32_796
  let v992 : BitVec 32 := Scalar.remsi v989 v991
  let c0_i32_800 : BitVec 32 := 0#32
  let v994 : BitVec 1 := Scalar.cmpi .slt v992 c0_i32_800
  let c0_i32_801 : BitVec 32 := 0#32
  let v995 : BitVec 1 := Scalar.cmpi .slt v991 c0_i32_801
  let v996 : BitVec 1 := Scalar.xori v994 v995
  let c0_i32_799 : BitVec 32 := 0#32
  let v993 : BitVec 1 := Scalar.cmpi .ne v992 c0_i32_799
  let v997 : BitVec 1 := Scalar.andi v996 v993
  let v998 : BitVec 32 := Scalar.addi v992 v991
  let v999 : BitVec 32 := Scalar.select v997 v998 v992
  let c1_i32_806 : BitVec 32 := 1#32
  let v1000 : BitVec 32 := Scalar.muli v999 c1_i32_806
  let v1001 : BitVec 32 := Scalar.addi c0_i32_807 v1000
  v1001.toNat
def k0_dev45 (d0 : Dev nD) : Nat :=
  let c0_i32_824 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_812 : BitVec 32 := 14#32
  let v1010 : BitVec 32 := Scalar.addi v2 c14_i32_812
  let c16_i32_813 : BitVec 32 := 16#32
  let c0_i32_814 : BitVec 32 := 0#32
  let v1011 : BitVec 1 := Scalar.cmpi .eq c16_i32_813 c0_i32_814
  let c1_i32_815 : BitVec 32 := 1#32
  let v1012 : BitVec 32 := Scalar.select v1011 c1_i32_815 c16_i32_813
  let v1013 : BitVec 32 := Scalar.remsi v1010 v1012
  let c0_i32_817 : BitVec 32 := 0#32
  let v1015 : BitVec 1 := Scalar.cmpi .slt v1013 c0_i32_817
  let c0_i32_818 : BitVec 32 := 0#32
  let v1016 : BitVec 1 := Scalar.cmpi .slt v1012 c0_i32_818
  let v1017 : BitVec 1 := Scalar.xori v1015 v1016
  let c0_i32_816 : BitVec 32 := 0#32
  let v1014 : BitVec 1 := Scalar.cmpi .ne v1013 c0_i32_816
  let v1018 : BitVec 1 := Scalar.andi v1017 v1014
  let v1019 : BitVec 32 := Scalar.addi v1013 v1012
  let v1020 : BitVec 32 := Scalar.select v1018 v1019 v1013
  let c1_i32_823 : BitVec 32 := 1#32
  let v1021 : BitVec 32 := Scalar.muli v1020 c1_i32_823
  let v1022 : BitVec 32 := Scalar.addi c0_i32_824 v1021
  v1022.toNat
def k0_dev46 (d0 : Dev nD) : Nat :=
  let c0_i32_841 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_829 : BitVec 32 := 15#32
  let v1031 : BitVec 32 := Scalar.addi v2 c15_i32_829
  let c16_i32_830 : BitVec 32 := 16#32
  let c0_i32_831 : BitVec 32 := 0#32
  let v1032 : BitVec 1 := Scalar.cmpi .eq c16_i32_830 c0_i32_831
  let c1_i32_832 : BitVec 32 := 1#32
  let v1033 : BitVec 32 := Scalar.select v1032 c1_i32_832 c16_i32_830
  let v1034 : BitVec 32 := Scalar.remsi v1031 v1033
  let c0_i32_834 : BitVec 32 := 0#32
  let v1036 : BitVec 1 := Scalar.cmpi .slt v1034 c0_i32_834
  let c0_i32_835 : BitVec 32 := 0#32
  let v1037 : BitVec 1 := Scalar.cmpi .slt v1033 c0_i32_835
  let v1038 : BitVec 1 := Scalar.xori v1036 v1037
  let c0_i32_833 : BitVec 32 := 0#32
  let v1035 : BitVec 1 := Scalar.cmpi .ne v1034 c0_i32_833
  let v1039 : BitVec 1 := Scalar.andi v1038 v1035
  let v1040 : BitVec 32 := Scalar.addi v1034 v1033
  let v1041 : BitVec 32 := Scalar.select v1039 v1040 v1034
  let c1_i32_840 : BitVec 32 := 1#32
  let v1042 : BitVec 32 := Scalar.muli v1041 c1_i32_840
  let v1043 : BitVec 32 := Scalar.addi c0_i32_841 v1042
  v1043.toNat
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Mesh.lean ====
/-
# The mesh, the buffers and the semaphores of the kernel

The kernel runs on 16 devices in one ring of numbers: device `c` talks to device `c + d`, modulo 16. This module
names the buffers a device holds, the pieces of them that travel, and the 65 semaphores per device the devices
exchange through, and says which device and which rectangle each printed number is.

The semaphores, device by device:

* the barrier: every device signals the 15 others one unit each, and waits for 15;
* `xsem 0 d` (a send semaphore): paid by the device's own copy of its block `c + d` of `x`;
* `xsem 1 s` (a receive semaphore): paid by device `s`'s copy into the columns of this device's `xg` numbered `s`;
* `xsem 2 d` (a send semaphore, `d ≠ 0`): paid by the device's own copy of its maximum to device `c + d`;
* `xsem 3 d` (a receive semaphore, `d ≠ 0`): paid by device `c - d`'s copy of its maximum into slot `d`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit.Geometry
public import Idealize.ShloMosaic.Lib.SparseCore.ProtocolKit
public import Idealize.ShloMosaic.Lib.Tactic

@[expose] public section

noncomputable section

namespace Cert.Proof.Dist

open Cert.KernelIdeal Cert.KernelIdeal.Gen

open Idealize.ShloMosaic
open Idealize.ShloMosaic.TcCoe
open Idealize.SL Idealize.SL.Sem

/-! ## The devices a device names -/

/-- The entry signals go to the 15 other devices, in the order of their distance. -/
theorem dev_signal : ∀ c : Dev nD, (![k0_dev1 c, k0_dev2 c, k0_dev3 c, k0_dev4 c, k0_dev5 c, k0_dev6 c, k0_dev7 c, k0_dev8 c, k0_dev9 c, k0_dev10 c, k0_dev11 c, k0_dev12 c, k0_dev13 c, k0_dev14 c, k0_dev15 c] : Fin 15 → ℕ)
    = fun d => (c.val + (d.val + 1)) % 16 := by decide +kernel

/-- The copies of `x` go to all devices, the device itself first. -/
theorem dev_send : ∀ c : Dev nD, (![k0_dev16 c, k0_dev17 c, k0_dev18 c, k0_dev19 c, k0_dev20 c, k0_dev21 c, k0_dev22 c, k0_dev23 c, k0_dev24 c, k0_dev25 c, k0_dev26 c, k0_dev27 c, k0_dev28 c, k0_dev29 c, k0_dev30 c, k0_dev31 c] : Fin 16 → ℕ)
    = fun d => (c.val + d.val) % 16 := by decide +kernel

/-- The copies of the maximum go to the 15 other devices. -/
theorem dev_amax : ∀ c : Dev nD, (![k0_dev32 c, k0_dev33 c, k0_dev34 c, k0_dev35 c, k0_dev36 c, k0_dev37 c, k0_dev38 c, k0_dev39 c, k0_dev40 c, k0_dev41 c, k0_dev42 c, k0_dev43 c, k0_dev44 c, k0_dev45 c, k0_dev46 c] : Fin 15 → ℕ)
    = fun d => (c.val + (d.val + 1)) % 16 := by decide +kernel

/-- The block of `x` the copy at distance `d` takes is the block of the device it goes to. -/
theorem off_send : ∀ c d : Fin 16, k0_off3 c (BitVec.ofNat 32 d.val) = ![256 * (c + d).val, 0] := by decide +kernel

/-! ## The buffers and their pieces -/

abbrev xM : Memref sig .tc .vmem S4096x256 .f32 := Memref.whole cc0_stg0_0
abbrev wM : Memref sig .tc .vmem S4096x2048 .f32 := Memref.whole cc0_stg1_0
abbrev oM : Memref sig .tc .vmem S256x2048 .f32 := Memref.whole cc0_stg2_0
abbrev gM : Memref sig .tc .vmem S256x4096 .f32 := Memref.whole cc0_scratch0
abbrev aM : Memref sig .tc .vmem S16x8x128 .f32 := Memref.whole cc0_scratch1

theorem inb_xRow (b : Fin 16) : ∀ a, (![256 * b.val, 0] : Fin 2 → ℕ) a + S256x256.size a ≤ S4096x256.size a := by
  revert b; decide
theorem inb_gCol (s : Fin 16) : ∀ a, (![0, 256 * s.val] : Fin 2 → ℕ) a + S256x256.size a ≤ S256x4096.size a := by
  revert s; decide
theorem inb_aSlot (i : Fin 16) : ∀ a, (![i.val, 0, 0] : Fin 3 → ℕ) a + S1x8x128.size a ≤ S16x8x128.size a := by
  revert i; decide

/-- Block `b` of 256 rows of a device's columns of `x`. -/
abbrev xRow (b : Fin 16) : Memref sig .tc .vmem S256x256 .f32 :=
  xM.slice (Rect.unit (s := S4096x256) ![256 * b.val, 0] S256x256.size (inb_xRow b)) (fun _ => rfl)
/-- The columns of `xg` that device `s` fills. -/
abbrev gCol (s : Fin 16) : Memref sig .tc .vmem S256x256 .f32 :=
  gM.slice (Rect.unit (s := S256x4096) ![0, 256 * s.val] S256x256.size (inb_gCol s)) (fun _ => rfl)
/-- Slot `i` of the array of maxima. -/
abbrev aSlot (i : Fin 16) : Memref sig .tc .vmem S8x128 .f32 :=
  (aM.slice (Rect.unit (s := S16x8x128) ![i.val, 0, 0] S1x8x128.size (inb_aSlot i)) (fun _ => rfl)).squeeze S8x128 squeezes_S1x8x128_S8x128

theorem mem_xRow (b : Fin 16) (i : S4096x256.Idx) : i ∈ (xRow b).view.set ↔ (i 0).val / 256 = b.val := by
  refine ValueKit.mem_set_slice_whole_iff cc0_stg0_0 _ i (Rect.mem_set_unit.trans (Fin.forall_fin_two.trans ?_))
  show (256 * b.val ≤ (i 0).val ∧ (i 0).val < 256 * b.val + 256) ∧ (0 ≤ (i 1).val ∧ (i 1).val < 0 + 256) ↔ _
  have h1 : (i 1).val < 256 := (i 1).isLt
  omega

theorem mem_gCol (s : Fin 16) (i : S256x4096.Idx) : i ∈ (gCol s).view.set ↔ (i 1).val / 256 = s.val := by
  refine ValueKit.mem_set_slice_whole_iff cc0_scratch0 _ i (Rect.mem_set_unit.trans (Fin.forall_fin_two.trans ?_))
  show (0 ≤ (i 0).val ∧ (i 0).val < 0 + 256) ∧ (256 * s.val ≤ (i 1).val ∧ (i 1).val < 256 * s.val + 256) ↔ _
  have h0 : (i 0).val < 256 := (i 0).isLt
  omega

theorem mem_aSlot (s : Fin 16) (i : S16x8x128.Idx) : i ∈ (aSlot s).view.set ↔ (i 0).val = s.val := by
  rw [show (aSlot s).view.set = _ from View.set_reshape _ _]
  refine ValueKit.mem_set_slice_whole_iff cc0_scratch1 _ i (Rect.mem_set_unit.trans (Fin.forall_fin_succ.trans
    (and_congr Iff.rfl Fin.forall_fin_two |>.trans ?_)))
  show (s.val ≤ (i 0).val ∧ (i 0).val < s.val + 1) ∧ (0 ≤ (i 1).val ∧ (i 1).val < 0 + 8) ∧ (0 ≤ (i 2).val ∧ (i 2).val < 0 + 128) ↔ _
  have h1 : (i 1).val < 8 := (i 1).isLt
  have h2 : (i 2).val < 128 := (i 2).isLt
  omega

theorem xRow_disjoint {b b' : Fin 16} (h : b ≠ b') : Disjoint (xRow b).view.set (xRow b').view.set :=
  Finset.disjoint_left.mpr fun i h₁ h₂ => h (Fin.ext (((mem_xRow b i).mp h₁).symm.trans ((mem_xRow b' i).mp h₂)))
theorem gCol_disjoint {b b' : Fin 16} (h : b ≠ b') : Disjoint (gCol b).view.set (gCol b').view.set :=
  Finset.disjoint_left.mpr fun i h₁ h₂ => h (Fin.ext (((mem_gCol b i).mp h₁).symm.trans ((mem_gCol b' i).mp h₂)))
theorem aSlot_disjoint {b b' : Fin 16} (h : b ≠ b') : Disjoint (aSlot b).view.set (aSlot b').view.set :=
  Finset.disjoint_left.mpr fun i h₁ h₂ => h (Fin.ext (((mem_aSlot b i).mp h₁).symm.trans ((mem_aSlot b' i).mp h₂)))

theorem xRow_cover : (Finset.univ.biUnion fun b => (xRow b).view.set) = (Finset.univ : Finset S4096x256.Idx) :=
  Finset.eq_univ_iff_forall.mpr fun i => by
    have h : (i 0).val < 4096 := (i 0).isLt
    exact Finset.mem_biUnion.mpr ⟨⟨(i 0).val / 256, by omega⟩, Finset.mem_univ _, (mem_xRow _ i).mpr rfl⟩
theorem gCol_cover : (Finset.univ.biUnion fun b => (gCol b).view.set) = (Finset.univ : Finset S256x4096.Idx) :=
  Finset.eq_univ_iff_forall.mpr fun i => by
    have h : (i 1).val < 4096 := (i 1).isLt
    exact Finset.mem_biUnion.mpr ⟨⟨(i 1).val / 256, by omega⟩, Finset.mem_univ _, (mem_gCol _ i).mpr rfl⟩
theorem aSlot_cover : (Finset.univ.biUnion fun b => (aSlot b).view.set) = (Finset.univ : Finset S16x8x128.Idx) :=
  Finset.eq_univ_iff_forall.mpr fun i =>
    Finset.mem_biUnion.mpr ⟨i 0, Finset.mem_univ _, (mem_aSlot _ i).mpr rfl⟩

/-! ## The semaphores and the cells -/

/-- The runtime's barrier semaphore. -/
abbrev barS : Sem sig := (SemArray.scalar (sig.barrier 0 rfl) : Sems sig S_).sem

set_option backward.proofsInPublic true in
/-- The semaphore `i` of the `j`-th of the kernel's four arrays of sixteen. -/
def xsem (j : Fin 4) (i : Fin 16) : DmaSem sig := ⟨3 + 16 * j.val + i.val, by revert j i; decide⟩

theorem sem_arg5 (i : Fin 16) (h) : ((cc0_scratch2.slice (Rect.unit (s := S16) ![i.val] S1.size h)).squeeze S_ squeezes_S1_S_).sem = xsem 0 i := by
  revert i; decide
theorem sem_arg6 (i : Fin 16) (h) : ((cc0_scratch3.slice (Rect.unit (s := S16) ![i.val] S1.size h)).squeeze S_ squeezes_S1_S_).sem = xsem 1 i := by
  revert i; decide
theorem sem_arg7 (i : Fin 16) (h) : ((cc0_scratch4.slice (Rect.unit (s := S16) ![i.val] S1.size h)).squeeze S_ squeezes_S1_S_).sem = xsem 2 i := by
  revert i; decide
theorem sem_arg8 (i : Fin 16) (h) : ((cc0_scratch5.slice (Rect.unit (s := S16) ![i.val] S1.size h)).squeeze S_ squeezes_S1_S_).sem = xsem 3 i := by
  revert i; decide

/-- A name for each of a device's 65 semaphores: the barrier, or the `i`-th of the `j`-th array. -/
abbrev Key : Type := Option (Fin 4 × Fin 16)

/-- The semaphore a name names, -/
def ksem : Key → SemLoc sig
  | none => .reg barS
  | some (j, i) => .dma (xsem j i)

set_option backward.proofsInPublic true in
/-- and the name of a semaphore, when it has one. -/
def kind : SemLoc sig → Option Key
  | .reg _ => some none
  | .dma q => if h : 3 ≤ (show Fin 67 from q).val then
      some (some (⟨((show Fin 67 from q).val - 3) / 16, by have := (show Fin 67 from q).isLt; omega⟩,
        ⟨((show Fin 67 from q).val - 3) % 16, by omega⟩)) else none

theorem kind_ksem (k : Key) : kind (ksem k) = some k := by revert k; decide

theorem ksem_injective : Function.Injective ksem := fun k k' h =>
  Option.some.inj ((kind_ksem k).symm.trans ((congrArg kind h).trans (kind_ksem k')))

/-- The cell of a device's semaphore. -/
abbrev kcell (c : Dev nD) (k : Key) : GSem nD τ sig := ((c : Thread nD τ), ksem k)
abbrev barCell (c : Dev nD) : GSem nD τ sig := kcell c none
abbrev xcell (c : Dev nD) (j : Fin 4) (i : Fin 16) : GSem nD τ sig := kcell c (some (j, i))

theorem kcell_injective : Function.Injective fun p : Dev nD × Key => kcell p.1 p.2 := by
  rintro ⟨c, k⟩ ⟨c', k'⟩ h
  have h1 : c = c' := congrArg (fun g : GSem nD τ sig => g.1.1) h
  have h2 : ksem k = ksem k' := congrArg (fun g : GSem nD τ sig => g.2) h
  rw [h1, ksem_injective h2]

/-- The credit of a block of 256 rows and columns, -/
abbrev N₁ : ℕ := (gCol 0).view.dmaCredit
/-- and that of a slot of the array of maxima. -/
abbrev N₂ : ℕ := (aSlot 0).view.dmaCredit
theorem N₁_pos : 0 < N₁ := View.dmaCredit_pos _ (by decide)
theorem N₂_pos : 0 < N₂ := View.dmaCredit_pos _ (by decide)

end Cert.Proof.Dist
-- ==== Proof.Sched.lean ====
/-
# Who pays which semaphore, with what

For each semaphore of device `c`: who waits, who pays, how much, and the contents each landing hands over.

* barrier: `c` waits for 15. Device `c + e` pays one unit (duty `e ≠ 0`) and hands over the columns `c` of its `xg`
  and the slot `e` of its maxima, the two places `c` will write there;
* `xsem 0 d`: `c` waits for its own copy at distance `d`, and has its block `c + d` of `x` back;
* `xsem 1 s`: `c` waits for device `s`'s block: the columns `s` of its `xg` now hold the rows of block `c` of
  device `s`'s columns of `x`;
* `xsem 2 d`: `c` waits for its own copy of its maximum at distance `d`, and has a share of slot 0 back;
* `xsem 3 d`: `c` waits for device `c - d`'s maximum in slot `d`.

The barrier is at level 1, the blocks' receive semaphores at level 2, the maxima's at level 3 and all others at 0, so
that every wait is below everything its device still owes.
-/
module

public import proofs.«01_k».proof.Proof.Mesh

@[expose] public section

noncomputable section

namespace Cert.Proof.Dist

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom finUpTo mem_finFrom mem_finUpTo)

variable {F : FTy → Type} [FloatOps F]

/-- The exchange's ghost state: duty names are the sixteen distances. -/
abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- Device `c`'s columns of `x`, as staged, -/
def xstg (c : Dev nD) : (cc0_stg0_0 : Ref sig .tc).ty.Contents (Elt F) :=
  (win0_0.blk (0 : Fin 1)).view.read (Elt F) (m ((c : Thread nD τ).loc main_arg0))
/-- and `w`. -/
def wstg (c : Dev nD) : (cc0_stg1_0 : Ref sig .tc).ty.Contents (Elt F) :=
  (win0_1.blk (0 : Fin 1)).view.read (Elt F) (m ((c : Thread nD τ).loc main_arg1))

/-- The index of row `r` of block `b`, column `k`, in a device's columns of `x`. -/
def xIdx (b : Fin 16) (r k : Fin 256) : S4096x256.Idx := fun a =>
  match a with
  | 0 => ⟨256 * b.val + r.val, by show _ < 4096; omega⟩
  | 1 => ⟨k.val, by show _ < 256; omega⟩

/-- What `xg` holds on device `c` when every block has landed: row `r` of block `c`, all 4096 columns. -/
def XG (c : Dev nD) : (cc0_scratch0 : Ref sig .tc).ty.Contents (Elt F) := fun i : S256x4096.Idx =>
  xstg m (⟨(i 1).val / 256, by have h : (i 1).val < 4096 := (i 1).isLt; show _ < 16; omega⟩ : Fin 16)
    (xIdx c (i 0) ⟨(i 1).val % 256, Nat.mod_lt _ (by decide)⟩)

abbrev gR₀ : Rect S256x4096 := Rect.unit (s := S256x4096) ![0, 0] S256x1024.size inb_S256x4096_S256x1024_0_0
abbrev gR₁ : Rect S256x4096 := Rect.unit (s := S256x4096) ![0, 1024] S256x1024.size inb_S256x4096_S256x1024_0_1024
abbrev gR₂ : Rect S256x4096 := Rect.unit (s := S256x4096) ![0, 2048] S256x1024.size inb_S256x4096_S256x1024_0_2048
abbrev gR₃ : Rect S256x4096 := Rect.unit (s := S256x4096) ![0, 3072] S256x1024.size inb_S256x4096_S256x1024_0_3072
abbrev wR₀ : Rect S4096x2048 := Rect.unit (s := S4096x2048) ![0, 0] S1024x2048.size inb_S4096x2048_S1024x2048_0_0
abbrev wR₁ : Rect S4096x2048 := Rect.unit (s := S4096x2048) ![1024, 0] S1024x2048.size inb_S4096x2048_S1024x2048_1024_0
abbrev wR₂ : Rect S4096x2048 := Rect.unit (s := S4096x2048) ![2048, 0] S1024x2048.size inb_S4096x2048_S1024x2048_2048_0
abbrev wR₃ : Rect S4096x2048 := Rect.unit (s := S4096x2048) ![3072, 0] S1024x2048.size inb_S4096x2048_S1024x2048_3072_0

/-- The product of the first 1024 columns of `xg` with the first 1024 rows of `w`, -/
def acc₀ (c : Dev nD) : Vec F S256x2048 .f32 :=
  k0_pay2 (gM.view.readAt (Elt F) gR₀.toLoadRect (XG m c)) (wM.view.readAt (Elt F) wR₀.toLoadRect (wstg m c))
/-- with the second added, -/
def acc₁ (c : Dev nD) : Vec F S256x2048 .f32 :=
  k0_pay3 (gM.view.readAt (Elt F) gR₁.toLoadRect (XG m c)) (wM.view.readAt (Elt F) wR₁.toLoadRect (wstg m c)) (acc₀ m c)
/-- the third, -/
def acc₂ (c : Dev nD) : Vec F S256x2048 .f32 :=
  k0_pay4 (gM.view.readAt (Elt F) gR₂.toLoadRect (XG m c)) (wM.view.readAt (Elt F) wR₂.toLoadRect (wstg m c)) (acc₁ m c)
/-- and the fourth. -/
def acc₃ (c : Dev nD) : Vec F S256x2048 .f32 :=
  k0_pay6 (k0_pay5 (gM.view.readAt (Elt F) gR₃.toLoadRect (XG m c)) (wM.view.readAt (Elt F) wR₃.toLoadRect (wstg m c))) (acc₂ m c)

/-- The index of entry `(j, k)` of the one slot a device computes. -/
def slotIdx (j : Fin 8) (k : Fin 128) : S1x8x128.Idx := fun a =>
  match a with
  | 0 => ⟨0, by decide⟩
  | 1 => ⟨j.val, by show _ < 8; omega⟩
  | 2 => ⟨k.val, by show _ < 128; omega⟩

/-- The device at distance `d` before device `c`. -/
abbrev before (c d : Fin 16) : Fin 16 := c - d

/-- What the array of maxima holds on device `c` when every maximum has landed: in slot `d` device `c - d`'s. -/
def AM (c : Dev nD) : (cc0_scratch1 : Ref sig .tc).ty.Contents (Elt F) := fun i : S16x8x128.Idx =>
  (k0_pay8 (acc₃ m (before c (i 0))) : FVec F S1x8x128 .f32) (slotIdx (i 1) (i 2))

/-- Device `c`'s result. -/
def outAt (c : Dev nD) : (cc0_stg2_0 : Ref sig .tc).ty.Contents (Elt F) := k0_pay1 (AM m c) (k0_pay7 (acc₃ m c))

/-! ## The pieces held -/

/-- The columns `s` of device `c`'s `xg`, -/
def gPts (c : Dev nD) (s : Fin 16) (f : (cc0_scratch0 : Ref sig .tc).ty.Contents (Elt F)) : sProp 𝕄 :=
  (((c : Thread nD τ).loc cc0_scratch0) ↦[(gCol s).view.set]{fullShare} f)
/-- block `b` of its columns of `x`, -/
def xPts (c : Dev nD) (b : Fin 16) : sProp 𝕄 :=
  (((c : Thread nD τ).loc cc0_stg0_0) ↦[(xRow b).view.set]{fullShare} xstg m c)
/-- and a share of slot `i` of its maxima. -/
def aPts (c : Dev nD) (i : Fin 16) (q : PosShare TreeShare) (f : (cc0_scratch1 : Ref sig .tc).ty.Contents (Elt F)) : sProp 𝕄 :=
  (((c : Thread nD τ).loc cc0_scratch1) ↦[(aSlot i).view.set]{q} f)

/-- What is left of slot 0's share after `n` pieces are taken, -/
def restSh : ℕ → PosShare TreeShare
  | 0 => fullShare
  | n + 1 => (restSh n).right
/-- and the piece taken next. -/
def partSh (n : ℕ) : PosShare TreeShare := (restSh n).left

theorem aPts_share (c : Dev nD) (i : Fin 16) (n : ℕ) (f) :
    (aPts (F := F) c i (restSh n) f) ⊣⊢ iprop(aPts c i (partSh n) f ∗ aPts c i (restSh (n + 1)) f) := by
  unfold aPts; exact pointsTo_share (PosShare.mem_left_op_right (restSh n))

instance gPts_storable (c : Dev nD) (s) (f) : BI.Storable (upEmb : UEmb _ 𝕄) (gPts (F := F) c s f) := by unfold gPts; infer_instance
instance xPts_storable (c : Dev nD) (b) : BI.Storable (upEmb : UEmb _ 𝕄) (xPts (F := F) m c b) := by unfold xPts; infer_instance
instance aPts_storable (c : Dev nD) (i) (q) (f) : BI.Storable (upEmb : UEmb _ 𝕄) (aPts (F := F) c i q f) := by unfold aPts; infer_instance

/-! ## The schedule -/

/-- What device `c + e` hands over with its entry signal to device `c`. -/
def barPay (c : Dev nD) (e : Fin 16) : sProp 𝕄 :=
  iprop((∃ f, gPts ((c : Fin 16) + e : Fin 16) c f) ∗ (∃ f, aPts ((c : Fin 16) + e : Fin 16) e fullShare f))

/-- What a landing hands over at semaphore `i` of the `j`-th array. -/
def xPay (c : Dev nD) (j : Fin 4) (i : Fin 16) : sProp 𝕄 :=
  match j with
  | 0 => xPts m c ((c : Fin 16) + i)
  | 1 => gPts c i (XG m c)
  | 2 => aPts c 0 (partSh i.val) (AM m c)
  | 3 => aPts c i fullShare (AM m c)

/-- The credit of a landing in the `j`-th array. -/
def xAmt (j : Fin 4) : ℕ := if j.val < 2 then N₁ else N₂
theorem xAmt_pos (j : Fin 4) : 0 < xAmt j := by unfold xAmt; split; exact N₁_pos; exact N₂_pos

/-- Which semaphores are used: of the two arrays of the maxima, all but the first. -/
def used (j : Fin 4) (i : Fin 16) : Prop := j.val < 2 ∨ i ≠ 0
instance (j : Fin 4) (i : Fin 16) : Decidable (used j i) := by unfold used; infer_instance

/-- The duties of a cell: the barrier's fifteen, a used semaphore's one. -/
def kDuties : Option Key → Finset (Fin 16)
  | some none => Finset.univ.erase 0
  | some (some (j, i)) => if used j i then {0} else ∅
  | none => ∅

/-- What each duty pays: a unit at the barrier, the credit of its landing at the other semaphores; -/
def kAmount : Option Key → ℕ
  | some (some (j, _)) => xAmt j
  | _ => 1

/-- and what it hands over. -/
def kPayload (c : Dev nD) (e : Fin 16) : Option Key → sProp 𝕄
  | some none => barPay c e
  | some (some (j, i)) => xPay m c j i
  | none => iprop(emp)

/-- One round: a barrier has a duty for each other device, a used semaphore one duty. -/
def Rd : Rounds.Schedule (GSem nD τ sig) (Fin 16) 𝕄 where
  duties g r := if r = 0 then kDuties (kind g.2) else ∅
  unitless _ := False
  amount g _ _ := kAmount (kind g.2)
  payload g _ e := kPayload m g.1.1 e (kind g.2)
  amount_pos g _ _ _ := by
    unfold kAmount
    split
    · exact xAmt_pos _
    · exact Nat.one_pos

instance xPay_storable (c : Dev nD) (j i) : BI.Storable (upEmb : UEmb _ 𝕄) (xPay (F := F) m c j i) := by
  unfold xPay; split <;> infer_instance
instance barPay_storable (c : Dev nD) (e) : BI.Storable (upEmb : UEmb _ 𝕄) (barPay (F := F) c e) := by
  unfold barPay; infer_instance

instance Rd_payload_storable (g : GSem nD τ sig) (r : ℕ) (e : Fin 16) :
    BI.Storable (upEmb : UEmb _ 𝕄) ((Rd (F := F) m).payload g r e) := by
  show BI.Storable upEmb (kPayload m g.1.1 e (kind g.2))
  unfold kPayload; split <;> infer_instance

theorem duties_bar (c : Dev nD) : (Rd (F := F) m).duties (barCell c) 0 = Finset.univ.erase 0 := by
  dsimp only [Rd]; rw [kind_ksem]; exact if_pos rfl
theorem duties_x (c : Dev nD) {j i} (h : used j i) : (Rd (F := F) m).duties (xcell c j i) 0 = {0} := by
  dsimp only [Rd]; rw [kind_ksem]; exact (if_pos rfl).trans (if_pos h)
theorem duties_unused (c : Dev nD) {j i} (h : ¬ used j i) (r : ℕ) : (Rd (F := F) m).duties (xcell c j i) r = ∅ := by
  dsimp only [Rd]; rw [kind_ksem]; split
  · exact if_neg h
  · rfl
theorem duties_later (g : GSem nD τ sig) : ∀ r, 1 ≤ r → (Rd (F := F) m).duties g r = ∅ :=
  fun r hr => by dsimp only [Rd]; exact if_neg (by omega)

theorem amount_bar (c : Dev nD) (e) : (Rd (F := F) m).amount (barCell c) 0 e = 1 := by
  dsimp only [Rd]; rw [kind_ksem]; rfl
theorem amount_x (c : Dev nD) (j i e) : (Rd (F := F) m).amount (xcell c j i) 0 e = xAmt j := by
  dsimp only [Rd]; rw [kind_ksem]; rfl

theorem payload_bar (c : Dev nD) (e) : (Rd (F := F) m).payload (barCell c) 0 e = barPay c e := by
  dsimp only [Rd]; rw [kind_ksem]; rfl
theorem payload_x (c : Dev nD) (j i e) : (Rd (F := F) m).payload (xcell c j i) 0 e = xPay m c j i := by
  dsimp only [Rd]; rw [kind_ksem]; rfl

theorem expect_bar (c : Dev nD) : (Rd (F := F) m).expect (barCell c) 0 = 15 := by
  unfold Schedule.expect Schedule.amountOf
  rw [duties_bar, Finset.sum_congr rfl fun d _ => amount_bar m c d, Finset.sum_const, smul_eq_mul, mul_one]; decide
theorem expect_x (c : Dev nD) {j i} (h : used j i) : (Rd (F := F) m).expect (xcell c j i) 0 = xAmt j := by
  unfold Schedule.expect Schedule.amountOf; rw [duties_x m c h, Finset.sum_singleton, amount_x]

theorem finFrom_one : finFrom 16 1 = Finset.univ.erase 0 := by decide

theorem rest_bar (c : Dev nD) : bigSep ((Rd (F := F) m).duties (barCell c) 0 \ ∅) (fun e => (Rd (F := F) m).payload (barCell c) 0 e)
    = bigSep (finFrom 16 1) (fun e => barPay c e) := by
  rw [Finset.sdiff_empty, duties_bar, finFrom_one]
  exact bigSep_congr fun e _ => payload_bar m c e
theorem rest_x (c : Dev nD) {j i} (h : used j i) :
    bigSep ((Rd (F := F) m).duties (xcell c j i) 0 \ ∅) (fun e => (Rd (F := F) m).payload (xcell c j i) 0 e) = xPay m c j i := by
  rw [Finset.sdiff_empty, duties_x m c h, bigSep_singleton, payload_x]

/-! ## What each device owes, and the levels -/

/-- The maxima device `c` still has to send from distance `k` on, -/
def owedA (c : Dev nD) (k : ℕ) : CellTallies nD τ sig Unit :=
  ∑ d ∈ finFrom 16 k, tallyAt (xcell ((c : Fin 16) + d : Fin 16) 3 d) () N₂
/-- the blocks of `x`, -/
def owedX (c : Dev nD) (k : ℕ) : CellTallies nD τ sig Unit :=
  ∑ d ∈ finFrom 16 k, tallyAt (xcell ((c : Fin 16) + d : Fin 16) 1 c) () N₁
/-- and the entry signals. -/
def owedB (c : Dev nD) (k : ℕ) : CellTallies nD τ sig Unit :=
  ∑ d ∈ finFrom 16 k, tallyAt (barCell ((c : Fin 16) + d : Fin 16)) () 1

def O₀ (c : Dev nD) : CellTallies nD τ sig Unit := owedA c 1 + owedX c 0 + owedB c 1

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

def kLev : Option Key → ℕ
  | some none => 1
  | some (some (j, _)) => if j = 1 then 2 else if j = 3 then 3 else 0
  | none => 0
def lv (g : GSem nD τ sig) (_ : Unit) : ℕ := kLev (kind g.2)

theorem lv_kcell (c : Dev nD) (k : Key) : lv (kcell c k) () = kLev (some k) := by unfold lv; rw [kind_ksem]

/-- All that is owed is owed to cells above level `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h1; rotate_left
  · exact h g u h1
  · exact h' g u (by omega)
theorem Above.tally {n : ℕ} (c : Dev nD) (k : Key) (a : ℕ) (h : n < kLev (some k)) : Above n (tallyAt (kcell c k) () a) := fun g u hg => by
  rw [tallyAt_apply] at hg
  by_cases h' : g = kcell c k ∧ u = ()
  · rw [h'.1]; exact ⟨rfl, by rw [lv_kcell]; exact h⟩
  · rw [if_neg h'] at hg; exact absurd hg (Nat.lt_irrefl 0)
theorem Above.sum {n : ℕ} (S : Finset (Fin 16)) (f : Fin 16 → CellTallies nD τ sig Unit) (h : ∀ d, Above n (f d)) : Above n (∑ d ∈ S, f d) := by
  induction S using Finset.induction_on with
  | empty => rw [Finset.sum_empty]; exact Above.zero n
  | insert a S ha ih => rw [Finset.sum_insert ha]; exact (h a).add ih

theorem above_owedA {n : ℕ} (h : n < 3) (c : Dev nD) (k : ℕ) : Above n (owedA c k) := Above.sum _ _ fun d => Above.tally _ _ _ h
theorem above_owedX {n : ℕ} (h : n < 2) (c : Dev nD) (k : ℕ) : Above n (owedX c k) := Above.sum _ _ fun d => Above.tally _ _ _ h
theorem above_owedB {n : ℕ} (h : n < 1) (c : Dev nD) (k : ℕ) : Above n (owedB c k) := Above.sum _ _ fun d => Above.tally _ _ _ h
theorem above_O₀ (c : Dev nD) : Above 0 (O₀ c) :=
  ((above_owedA (by decide) c 1).add (above_owedX (by decide) c 0)).add (above_owedB (by decide) c 1)

/-- A device may wait on a cell below everything it owes. -/
theorem mayWait (c : Dev nD) (sm : SemLoc sig) (O : CellTallies nD τ sig Unit) (hO : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp])
    (fun g u hg => (hO g u hg).2)

end Cert.Proof.Dist
-- ==== Proof.Steps.lean ====
/-
# The kernel's communication steps

Each kind of step of the kernel is proved once, for any distance: an entry signal, the wait at the barrier, the send of
a block of `x`, the send of a maximum, and a wait at any of the four arrays of semaphores. A step's state holds what the
steps still to come need (`finFrom`) and what the steps made have left (`finUpTo`).
-/
module

public import proofs.«01_k».proof.Proof.Sched

@[expose] public section

noncomputable section

namespace Cert.Proof.Dist

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom finUpTo mem_finFrom mem_finUpTo bigSep_finFrom_succ bigSep_finUpTo_succ add_sum_finFrom_succ)

variable {F : FTy → Type} [FloatOps F]

local notation "𝕄" => MT nD τ sig Unit (Elt F) ℕ UU ℕ

variable (m : (ℓ : Loc nD τ sig) → Buf (Elt F) ℓ)

abbrev 𝒱₀ : Variants := Variants.none

/-- From `A`, device `c` runs the program to its end and has `Q` of the result. -/
def Tri {α : Type} (c : Dev nD) (A : sProp 𝕄) (P : Prog (TpuEff nD τ sig (Elt F) Λ₀ .tc) α) (Q : α → sProp 𝕄) : Prop :=
  A ⊢ wp frame (wpE (defs₀ (F := F)) 𝒱₀ (c : Thread nD τ) none) Set.univ P Q

theorem Tri.pre {α : Type} {c : Dev nD} {A A' : sProp 𝕄} {P : Prog (TpuEff nD τ sig (Elt F) Λ₀ .tc) α} {Q : α → sProp 𝕄}
    (h : A ⊢ A') (hP : Tri c A' P Q) : Tri c A P Q := h.trans hP

/-- Two families, index by index, make a third, -/
theorem bigSep_zip {I : Type} {s : Finset I} {Φ Ψ Θ : I → sProp 𝕄} (h : ∀ i ∈ s, iprop(Φ i ∗ Ψ i) ⊢ Θ i) :
    iprop(bigSep s Φ ∗ bigSep s Ψ) ⊢ bigSep s Θ := (Entails.of_eq (bigSep_sep s Φ Ψ).symm).trans (bigSep_mono h)
/-- and one family comes apart into two. -/
theorem bigSep_unzip {I : Type} {s : Finset I} {Φ Ψ Θ : I → sProp 𝕄} (h : ∀ i ∈ s, Θ i ⊢ iprop(Φ i ∗ Ψ i)) :
    bigSep s Θ ⊢ iprop(bigSep s Φ ∗ bigSep s Ψ) := (bigSep_mono h).trans (Entails.of_eq (bigSep_sep s Φ Ψ))

/-! ## What every step may use -/

/-- The invariants of all cells, and that each has reached its round. -/
def records (K : Dev nD × Key → ℕ) : sProp 𝕄 :=
  iprop((bigSep Finset.univ fun p : Dev nD × Key => cellInv ER (Rd m) (K p) (kcell p.1 p.2))
    ∗ bigSep Finset.univ fun p : Dev nD × Key => reached ER (kcell p.1 p.2) 0)

instance records_persistent (K : Dev nD × Key → ℕ) : BI.Persistent (records m K) := by unfold records; infer_instance

theorem inv_at (K : Dev nD × Key → ℕ) (c : Dev nD) (k : Key) : records m K ⊢ cellInv ER (Rd m) (K (c, k)) (kcell c k) := by
  unfold records
  iintro ⟨H, -⟩
  iapply (show (bigSep Finset.univ fun p : Dev nD × Key => cellInv ER (Rd m) (K p) (kcell p.1 p.2)) ⊢ cellInv ER (Rd m) (K (c, k)) (kcell c k) from bigSep_elim (Finset.mem_univ (c, k))); iexact H
theorem reached_at (K : Dev nD × Key → ℕ) (c : Dev nD) (k : Key) : records m K ⊢ reached ER (kcell c k) 0 := by
  unfold records
  iintro ⟨-, H⟩
  iapply (show (bigSep Finset.univ fun p : Dev nD × Key => reached ER (kcell p.1 p.2) 0) ⊢ reached ER (kcell c k) 0 from bigSep_elim (Finset.mem_univ (c, k))); iexact H

/-- The records and the levels. -/
def Env (K : Dev nD × Key → ℕ) : sProp 𝕄 := iprop(records m K ∗ levAts L lv)
instance Env_persistent (K : Dev nD × Key → ℕ) : BI.Persistent (Env m K) := by unfold Env; infer_instance

/-- What device `c` owes, whatever it has waited for. -/
def owing (c : Dev nD) (O : CellTallies nD τ sig Unit) : sProp 𝕄 := iprop(∃ W, owes (c : Thread nD τ) O W)

variable (K : Dev nD × Key → ℕ)

/-! ## The entry signals and the barrier -/

/-- What the signal at distance `d` hands over: the token of the duty it pays, and the two places it opens. -/
def sigRes (c : Dev nD) (d : Fin 16) : sProp 𝕄 :=
  iprop(dutyTok ER (barCell ((c : Fin 16) + d : Fin 16)) 0 (-d) ∗ (∃ f, gPts c ((c : Fin 16) + d : Fin 16) f) ∗ (∃ f, aPts c (-d) fullShare f))

/-- Before the signal at distance `d`. -/
def Ph1 (c : Dev nD) (d : ℕ) : sProp 𝕄 :=
  iprop(Env m K ∗ owing c (owedA c 1 + owedX c 0 + owedB c d) ∗ bigSep (finFrom 16 d) (sigRes c))

theorem dev_eq (c n : Dev nD) (d : ℕ) (hd : d < 16) (hn : n.val = (c.val + d) % 16) : n = ((c : Fin 16) + ⟨d, hd⟩ : Fin 16) :=
  Fin.ext (hn.trans (Fin.val_add (n := 16) c ⟨d, hd⟩).symm)

theorem fin_of_neg : ∀ a : Fin 16, -a = 0 → a = 0 := by decide
theorem fin_add_neg : ∀ a b : Fin 16, a + b + -b = a := by decide
theorem fin_add_sub : ∀ a b : Fin 16, a - 0 = a + b - b := by decide

theorem neg_ne {d : ℕ} (h1 : 1 ≤ d) (hd : d < 16) : (-(⟨d, hd⟩ : Fin 16)) ∈ Finset.univ.erase (0 : Fin 16) :=
  Finset.mem_erase.mpr ⟨fun h => by
    have := congrArg Fin.val (fin_of_neg _ h)
    exact absurd this (by show d ≠ 0; omega), Finset.mem_univ _⟩

theorem sig_step {α : Type} (c n : Dev nD) (d : ℕ) (h1 : 1 ≤ d) (hd : d < 16) (hn : n.val = (c.val + d) % 16)
    {R : sProp 𝕄} {k : PUnit → Prog (TpuEff nD τ sig (Elt F) Λ₀ .tc) α} {Q : α → sProp 𝕄}
    (h : Tri c iprop(Ph1 m K c (d + 1) ∗ R) (k ⟨⟩) Q) :
    Tri c iprop(Ph1 m K c d ∗ R) (.op (.semSignal (n, .tc) barS (1#32 : BitVec 32).toInt) k) Q := by
  obtain rfl := dev_eq c n d hd hn
  unfold Tri
  unfold Ph1 Env owing
  iintro ⟨⟨⟨#HI, #HL⟩, ⟨%W, HO⟩, HS⟩, HR⟩
  ihave HS' := (Entails.of_eq (bigSep_finFrom_succ hd (sigRes (F := F) c))) $$ HS
  icases HS' with ⟨Hd, HS⟩
  unfold sigRes
  icases Hd with ⟨Htok, Hg, Ha⟩
  iapply (Rounds.wp_signal 𝒱₀ ER (Rd m) (c : Thread nD τ) none (dst := ((((c : Fin 16) + ⟨d, hd⟩ : Fin 16) : Dev nD) : Thread nD τ))
      (κ := K (((c : Fin 16) + ⟨d, hd⟩ : Fin 16), none)) (r := 0)
      (d := -⟨d, hd⟩) (by rw [show (Rd m).duties (_, SemLoc.reg barS) 0 = _ from duties_bar m _]; exact neg_ne h1 hd) ((amount_bar m _ _).trans (by decide)) () (owedA c 1 + owedX c 0 + owedB c (d + 1))
      (add_sum_finFrom_succ _ hd _)) $$ [HO Htok Hg Ha]
  · isplitr; · iapply (inv_at m K _ none); iexact HI
    isplitl [HO]; · iexact HO
    isplitl [Htok]; · iexact Htok
    isplitl [Hg Ha]
    · rw [show (Rd m).payload (_, SemLoc.reg barS) 0 (-⟨d, hd⟩) = _ from payload_bar m ((c : Fin 16) + ⟨d, hd⟩ : Fin 16) _]; unfold barPay
      rw [fin_add_neg]
      isplitl [Hg] <;> iassumption
    iapply (reached_at m K _ none); iexact HI
  iintro HO
  iapply (show _ ⊢ _ from h)
  unfold Ph1 Env owing
  isplitr [HR]
  · isplitr
    · isplitr; · iexact HI
      iexact HL
    isplitl [HO]; · iexists W; iexact HO
    unfold sigRes; iexact HS
  iexact HR

/-- The barrier, before the wait. -/
def barRes (c : Dev nD) : sProp 𝕄 := iprop(cred (tallyAt (barCell c) () 15) ∗ atPos ER (barCell c) 0 ∅ 0)
/-- After it: the places the 15 others have opened. -/
def barDone (c : Dev nD) : sProp 𝕄 := iprop(atPos ER (barCell c) 1 ∅ 0 ∗ bigSep (finFrom 16 1) (fun e => barPay c e))

theorem bar_step {α : Type} (c : Dev nD) {R : sProp 𝕄} {k : PUnit → Prog (TpuEff nD τ sig (Elt F) Λ₀ .tc) α} {Q : α → sProp 𝕄}
    (h : Tri c iprop((Env m K ∗ owing c (owedA c 1 + owedX c 0) ∗ barDone c) ∗ R) (k ⟨⟩) Q) :
    Tri c iprop((Env m K ∗ owing c (owedA c 1 + owedX c 0) ∗ barRes c) ∗ R) (.op (.semWait barS (15#32 : BitVec 32).toInt) k) Q := by
  unfold Tri Env owing barRes
  iintro ⟨⟨⟨#HI, #HL⟩, ⟨%W, HO⟩, Hc, Hat⟩, HR⟩
  iapply (Rounds.wp_wait_rest_token 𝒱₀ ER (Rd m) (c : Thread nD τ) none (κ := K (c, none)) (sm := .reg barS)
      (wpE_semWait_eq 𝒱₀ (c : Thread nD τ) none Set.univ) (Set.mem_univ _) () (O := owedA c 1 + owedX c 0) (W := W) (R := 0) (m := 0) (T := ∅)
      (by rw [show ((c : Thread nD τ), SemLoc.reg barS) = barCell c from rfl, expect_bar]; decide)) $$ [HO Hc Hat]
  · isplitr; · iapply (inv_at m K _ none); iexact HI
    isplitl [Hc]; · iexact Hc
    isplitl [HO]; · iexact HO
    isplitr
    · iapply (mayWait c (.reg barS) _ (by
        rw [show lv ((c : Thread nD τ), SemLoc.reg barS) () = 1 from lv_kcell c none]
        exact (above_owedA (by decide) c 1).add (above_owedX (by decide) c 0))); iexact HL
    iexact Hat
  iintro ⟨HO, Hat, -, Hp⟩
  ihave Hp' := (show (bigSep ((Rd m).duties ((c : Thread nD τ), SemLoc.reg barS) 0 \ ∅) fun e => (Rd m).payload ((c : Thread nD τ), SemLoc.reg barS) 0 e : sProp 𝕄) ⊢ bigSep (finFrom 16 1) (fun e => barPay c e) from Entails.of_eq (rest_bar m c)) $$ Hp
  iapply (show _ ⊢ _ from h)
  unfold Env owing barDone
  isplitr [HR]
  · isplitr
    · isplitr; · iexact HI
      iexact HL
    isplitl [HO]; · iexists _; iexact HO
    isplitl [Hat]; · iexact Hat
    iexact Hp'
  iexact HR

/-! ## What a landing leaves -/

theorem xstg_congr {c c' : Dev nD} {i i' : S4096x256.Idx} (hc : c = c') (hi : i = i') : xstg m c i = xstg m c' i' := by rw [hc, hi]

/-- The copy of block `n` of device `c`'s columns of `x` leaves in the columns `c` of device `n`'s `xg` what belongs there. -/
theorem landed_x (c n : Fin 16) (f : (cc0_scratch0 : Ref sig .tc).ty.Contents (Elt F)) (i : S256x4096.Idx) (hi : i ∈ (gCol c).view.set) :
    (gCol c).view.write (Elt F) f ((xRow n).view.read (Elt F) (xstg m c)) Finset.univ i = XG m n i := by
  obtain ⟨x, -, rfl⟩ := Finset.mem_map.mp hi
  rw [View.write_emb_of_mem _ _ (Finset.mem_univ _), View.read_apply]
  have g0 : ((gCol c).view.emb x (0 : Fin 2)).val = 0 + (x (0 : Fin 2)).val := ValueKit.view_emb_slice_whole_unit_val cc0_scratch0 _ _ _ x (0 : Fin 2)
  have g1 : ((gCol c).view.emb x (1 : Fin 2)).val = 256 * c.val + (x (1 : Fin 2)).val := ValueKit.view_emb_slice_whole_unit_val cc0_scratch0 _ _ _ x (1 : Fin 2)
  have x0 : ((xRow n).view.emb x (0 : Fin 2)).val = 256 * n.val + (x (0 : Fin 2)).val := ValueKit.view_emb_slice_whole_unit_val cc0_stg0_0 _ _ _ x (0 : Fin 2)
  have x1 : ((xRow n).view.emb x (1 : Fin 2)).val = 0 + (x (1 : Fin 2)).val := ValueKit.view_emb_slice_whole_unit_val cc0_stg0_0 _ _ _ x (1 : Fin 2)
  have b1 : (x (1 : Fin 2)).val < 256 := (x (1 : Fin 2)).isLt
  show xstg m c ((xRow n).view.emb x) = XG m n ((gCol c).view.emb x)
  refine xstg_congr m (Fin.ext ?_) (funext fun a => Fin.ext ?_)
  · show c.val = ((gCol c).view.emb x (1 : Fin 2)).val / 256
    omega
  · match a with
    | 0 =>
      show ((xRow n).view.emb x (0 : Fin 2)).val = 256 * n.val + ((gCol c).view.emb x (0 : Fin 2)).val
      omega
    | 1 =>
      show ((xRow n).view.emb x (1 : Fin 2)).val = ((gCol c).view.emb x (1 : Fin 2)).val % 256
      omega

theorem AM_congr {c c' : Dev nD} {i i' : S16x8x128.Idx} (h0 : before c (i 0) = before c' (i' 0)) (h1 : (i 1).val = (i' 1).val) (h2 : (i 2).val = (i' 2).val) :
    AM m c i = AM m c' i' := by
  unfold AM
  rw [h0, show i 1 = i' 1 from Fin.ext h1, show i 2 = i' 2 from Fin.ext h2]

set_option maxRecDepth 4000 in
/-- The copy of device `c`'s maximum leaves in slot `d` of device `c + d` what belongs there. -/
theorem landed_a (c d : Fin 16) (f : (cc0_scratch1 : Ref sig .tc).ty.Contents (Elt F)) (i : S16x8x128.Idx) (hi : i ∈ (aSlot d).view.set) :
    (aSlot d).view.write (Elt F) f ((aSlot 0).view.read (Elt F) (AM m c)) Finset.univ i = AM m (c + d : Fin 16) i := by
  obtain ⟨x, -, rfl⟩ := Finset.mem_map.mp hi
  rw [View.write_emb_of_mem _ _ (Finset.mem_univ _), View.read_apply]
  have hv (s : Fin 16) (a : Fin 3) := ValueKit.view_emb_slice_whole_unit_val cc0_scratch1 _ _ (inb_aSlot s) (Shape.reshapeEquiv squeezes_S1x8x128_S8x128.numel_eq x) a
  refine (cast_cast _ _ _).trans ((cast_eq _ _).trans ?_)
  have z : ((Shape.reshapeEquiv squeezes_S1x8x128_S8x128.numel_eq x) (0 : Fin 3)).val < 1 := ((Shape.reshapeEquiv squeezes_S1x8x128_S8x128.numel_eq x) (0 : Fin 3)).isLt
  refine AM_congr m ?_ ?_ ?_
  rotate_left
  · exact (hv 0 1).trans (hv d 1).symm
  · exact (hv 0 2).trans (hv d 2).symm
  have e0 : ((aSlot 0).view.emb x (0 : Fin 3)) = (0 : Fin 16) := Fin.ext ((hv 0 0).trans (by show 0 + _ = 0; omega))
  have ed : ((aSlot d).view.emb x (0 : Fin 3)) = (d : Fin 16) := Fin.ext ((hv d 0).trans (by show d.val + _ = d.val; omega))
  show before c ((aSlot 0).view.emb x (0 : Fin 3)) = before (c + d : Fin 16) ((aSlot d).view.emb x (0 : Fin 3))
  rw [e0, ed]
  exact fin_add_sub c d

/-! ## The sends -/

/-- What the send of the block at distance `d` takes: the tokens of the two duties it pays, the block, and the place. -/
def sendRes (c : Dev nD) (d : Fin 16) : sProp 𝕄 :=
  iprop(dutyTok ER (xcell c 0 d) 0 0 ∗ dutyTok ER (xcell ((c : Fin 16) + d : Fin 16) 1 c) 0 0
    ∗ xPts m c ((c : Fin 16) + d : Fin 16) ∗ (∃ f, gPts ((c : Fin 16) + d : Fin 16) c f))

theorem mem_duty (c : Dev nD) {j : Fin 4} {i : Fin 16} (h : used j i) : (0 : Fin 16) ∈ (Rd m).duties (xcell c j i) 0 := by
  rw [duties_x m c h]; exact Finset.mem_singleton_self _

/-- Before the send at distance `d`. -/
def Ph2 (c : Dev nD) (d : ℕ) : sProp 𝕄 :=
  iprop(Env m K ∗ owing c (owedA c 1 + owedX c d) ∗ bigSep (finFrom 16 d) (sendRes m c)
    ∗ bigSep (finUpTo 16 d) (fun d => cred (tallyAt (xcell c 0 d) () N₁)))

theorem sem_arg5' {o : Fin 1 → ℕ} (i : ℕ) (hi : i < 16) (ho : o = ![i]) (h) :
    ((cc0_scratch2.slice (Rect.unit (s := S16) o S1.size h)).squeeze S_ squeezes_S1_S_).sem = xsem 0 ⟨i, hi⟩ := by
  subst ho; exact sem_arg5 ⟨i, hi⟩ h
theorem sem_arg6' {o : Fin 1 → ℕ} (i : ℕ) (hi : i < 16) (ho : o = ![i]) (h) :
    ((cc0_scratch3.slice (Rect.unit (s := S16) o S1.size h)).squeeze S_ squeezes_S1_S_).sem = xsem 1 ⟨i, hi⟩ := by
  subst ho; exact sem_arg6 ⟨i, hi⟩ h
theorem sem_arg7' {o : Fin 1 → ℕ} (i : ℕ) (hi : i < 16) (ho : o = ![i]) (h) :
    ((cc0_scratch4.slice (Rect.unit (s := S16) o S1.size h)).squeeze S_ squeezes_S1_S_).sem = xsem 2 ⟨i, hi⟩ := by
  subst ho; exact sem_arg7 ⟨i, hi⟩ h
theorem sem_arg8' {o : Fin 1 → ℕ} (i : ℕ) (hi : i < 16) (ho : o = ![i]) (h) :
    ((cc0_scratch5.slice (Rect.unit (s := S16) o S1.size h)).squeeze S_ squeezes_S1_S_).sem = xsem 3 ⟨i, hi⟩ := by
  subst ho; exact sem_arg8 ⟨i, hi⟩ h

theorem send_step {α : Type} (c n : Dev nD) (d : ℕ) (hd : d < 16) (hn : n.val = (c.val + d) % 16)
    {o₃ o₂ : Fin 2 → ℕ} (h₃ : o₃ = ![256 * ((c : Fin 16) + ⟨d, hd⟩ : Fin 16).val, 0]) (h₂ : o₂ = ![0, 256 * c.val])
    {i₃ : ∀ a, o₃ a + S256x256.size a ≤ S4096x256.size a} {i₂ : ∀ a, o₂ a + S256x256.size a ≤ S256x4096.size a}
    {sS sR : DmaSem sig} (hS : sS = xsem 0 ⟨d, hd⟩) (hR : sR = xsem 1 c)
    {hsc : ((gM.slice (Rect.unit (s := S256x4096) o₂ S256x256.size i₂) (fun _ => rfl) : Memref sig (Dev.tc n : Thread nD τ).2.kind .vmem S256x256 .f32)).view.ref.isScScratch = false}
    {hsrc : (xM.slice (Rect.unit (s := S4096x256) o₃ S256x256.size i₃) (fun _ => rfl)).view.WordExact}
    {hdst : (gM.slice (Rect.unit (s := S256x4096) o₂ S256x256.size i₂) (fun _ => rfl)).view.WordExact}
    {hsem : DmaTarget.Typed .vmem (.dma sR) (.remote (Dev.tc n : Thread nD τ) (gM.slice (Rect.unit (s := S256x4096) o₂ S256x256.size i₂) (fun _ => rfl)) (.dma sS) hsc)}
    {R : sProp 𝕄} {k : PUnit → Prog (TpuEff nD τ sig (Elt F) Λ₀ .tc) α} {Q : α → sProp 𝕄}
    (h : Tri c iprop(Ph2 m K c (d + 1) ∗ R) (k ⟨⟩) Q) :
    Tri c iprop(Ph2 m K c d ∗ R) (.op (.enqueueDma (xM.slice (Rect.unit (s := S4096x256) o₃ S256x256.size i₃) (fun _ => rfl))
      (.remote (Dev.tc n : Thread nD τ) (gM.slice (Rect.unit (s := S256x4096) o₂ S256x256.size i₂) (fun _ => rfl)) (.dma sS) hsc)
      (.dma sR) hsrc hdst hsem) k) Q := by
  obtain rfl := dev_eq c n d hd hn
  subst h₃ h₂ hS hR
  unfold Tri
  unfold Ph2 Env owing
  iintro ⟨⟨⟨#HI, #HL⟩, ⟨%W, HO⟩, HS, HD⟩, HR⟩
  ihave HS' := (Entails.of_eq (bigSep_finFrom_succ hd (sendRes m c))) $$ HS
  icases HS' with ⟨Hd, HS⟩
  unfold sendRes xPts gPts
  icases Hd with ⟨Ht, Ht', Hx, ⟨%f, Hg⟩⟩
  iapply (Rounds.wp_send_pointsTo 𝒱₀ ER (Rd m) (c : Thread nD τ) none
      (c' := ((((c : Fin 16) + ⟨d, hd⟩ : Fin 16) : Dev nD) : Thread nD τ))
      (src := xRow ((c : Fin 16) + ⟨d, hd⟩ : Fin 16)) (dst := gCol c)
      (κ₁ := K (c, some (0, ⟨d, hd⟩))) (κ₂ := K (((c : Fin 16) + ⟨d, hd⟩ : Fin 16), some (1, c)))
      (r₁ := 0) (r₂ := 0) (d₁ := 0) (d₂ := 0) (fs := xstg m c) (fd := f)
      (mem_duty m _ (Or.inl (by decide)))
      (mem_duty m _ (Or.inl (by decide)))
      () () N₁ rfl (amount_x m c 0 ⟨d, hd⟩ 0) (amount_x m ((c : Fin 16) + ⟨d, hd⟩ : Fin 16) 1 c 0)
      (owedA c 1 + owedX c (d + 1)) (add_sum_finFrom_succ _ hd _) (W := W)
      (Entails.of_eq (payload_x m c 0 ⟨d, hd⟩ 0).symm)
      (Entails.of_eq ((pointsTo_congr fun i hi => landed_x m c _ f i hi).trans (payload_x m _ 1 c 0).symm))) $$ [HO Ht Ht' Hx Hg]
  · isplitr; · iapply (inv_at m K _ (some (0, ⟨d, hd⟩))); iexact HI
    isplitr; · iapply (inv_at m K _ (some (1, c))); iexact HI
    isplitl [Hx]; · iexact Hx
    isplitl [Hg]; · iexact Hg
    isplitl [HO]; · iexact HO
    isplitl [Ht]; · iexact Ht
    isplitr; · iapply (reached_at m K _ (some (0, ⟨d, hd⟩))); iexact HI
    isplitl [Ht']; · iexact Ht'
    iapply (reached_at m K _ (some (1, c))); iexact HI
  iintro ⟨HC, HO⟩
  iapply (show _ ⊢ _ from h)
  unfold Ph2 Env owing
  isplitr [HR]
  · isplitr
    · isplitr; · iexact HI
      iexact HL
    isplitl [HO]; · iexists W; iexact HO
    isplitl [HS]; · unfold sendRes xPts gPts; iexact HS
    iapply (Entails.of_eq (bigSep_finUpTo_succ hd _).symm)
    isplitl [HC]; · iexact HC
    iexact HD
  iexact HR

/-- What the send of the maximum at distance `d` takes: the tokens of the two duties it pays, and the place. -/
def amRes (c : Dev nD) (d : Fin 16) : sProp 𝕄 :=
  iprop(dutyTok ER (xcell c 2 d) 0 0 ∗ dutyTok ER (xcell ((c : Fin 16) + d : Fin 16) 3 d) 0 0
    ∗ (∃ f, aPts ((c : Fin 16) + d : Fin 16) d fullShare f))

/-- Before the send of the maximum at distance `d`: what is left of slot 0's share goes with it. -/
def Ph5 (c : Dev nD) (d : ℕ) : sProp 𝕄 :=
  iprop(Env m K ∗ owing c (owedA c d) ∗ bigSep (finFrom 16 d) (amRes c) ∗ aPts c 0 (restSh d) (AM m c)
    ∗ bigSep (finUpTo 16 d) (fun d => if used 2 d then cred (tallyAt (xcell c 2 d) () N₂) else iprop(emp)))

theorem amax_step {α : Type} (c n : Dev nD) (d : ℕ) (h1 : 1 ≤ d) (hd : d < 16) (hn : n.val = (c.val + d) % 16)
    {o : Fin 3 → ℕ} (ho : o = ![d, 0, 0])
    {i₀ : ∀ a, (![0, 0, 0] : Fin 3 → ℕ) a + S1x8x128.size a ≤ S16x8x128.size a} {i : ∀ a, o a + S1x8x128.size a ≤ S16x8x128.size a}
    {sS sR : DmaSem sig} (hS : sS = xsem 2 ⟨d, hd⟩) (hR : sR = xsem 3 ⟨d, hd⟩)
    {hsc : (((aM.slice (Rect.unit (s := S16x8x128) o S1x8x128.size i) (fun _ => rfl)).squeeze S8x128 squeezes_S1x8x128_S8x128 : Memref sig (Dev.tc n : Thread nD τ).2.kind .vmem S8x128 .f32)).view.ref.isScScratch = false}
    {hsrc : ((aM.slice (Rect.unit (s := S16x8x128) ![0, 0, 0] S1x8x128.size i₀) (fun _ => rfl)).squeeze S8x128 squeezes_S1x8x128_S8x128).view.WordExact}
    {hdst : ((aM.slice (Rect.unit (s := S16x8x128) o S1x8x128.size i) (fun _ => rfl)).squeeze S8x128 squeezes_S1x8x128_S8x128).view.WordExact}
    {hsem : DmaTarget.Typed .vmem (.dma sR) (.remote (Dev.tc n : Thread nD τ) ((aM.slice (Rect.unit (s := S16x8x128) o S1x8x128.size i) (fun _ => rfl)).squeeze S8x128 squeezes_S1x8x128_S8x128) (.dma sS) hsc)}
    {R : sProp 𝕄} {k : PUnit → Prog (TpuEff nD τ sig (Elt F) Λ₀ .tc) α} {Q : α → sProp 𝕄}
    (h : Tri c iprop(Ph5 m K c (d + 1) ∗ R) (k ⟨⟩) Q) :
    Tri c iprop(Ph5 m K c d ∗ R) (.op (.enqueueDma ((aM.slice (Rect.unit (s := S16x8x128) ![0, 0, 0] S1x8x128.size i₀) (fun _ => rfl)).squeeze S8x128 squeezes_S1x8x128_S8x128)
      (.remote (Dev.tc n : Thread nD τ) ((aM.slice (Rect.unit (s := S16x8x128) o S1x8x128.size i) (fun _ => rfl)).squeeze S8x128 squeezes_S1x8x128_S8x128) (.dma sS) hsc)
      (.dma sR) hsrc hdst hsem) k) Q := by
  obtain rfl := dev_eq c n d hd hn
  subst ho hS hR
  have hu : ∀ j : Fin 4, used j ⟨d, hd⟩ := fun j => Or.inr (fun e => by have := congrArg Fin.val e; exact absurd this (by show d ≠ 0; omega))
  unfold Tri
  unfold Ph5 Env owing
  iintro ⟨⟨⟨#HI, #HL⟩, ⟨%W, HO⟩, HS, Ha, HD⟩, HR⟩
  ihave HS' := (Entails.of_eq (bigSep_finFrom_succ hd (amRes (F := F) c))) $$ HS
  icases HS' with ⟨Hd, HS⟩
  ihave Ha' := (aPts_share c 0 d (AM m c)).1 $$ Ha
  icases Ha' with ⟨Hp, Ha⟩
  unfold amRes
  icases Hd with ⟨Ht, Ht', ⟨%f, Hg⟩⟩
  unfold aPts
  iapply (Rounds.wp_send_pointsTo 𝒱₀ ER (Rd m) (c : Thread nD τ) none
      (c' := ((((c : Fin 16) + ⟨d, hd⟩ : Fin 16) : Dev nD) : Thread nD τ))
      (src := aSlot 0) (dst := aSlot ⟨d, hd⟩)
      (κ₁ := K (c, some (2, ⟨d, hd⟩))) (κ₂ := K (((c : Fin 16) + ⟨d, hd⟩ : Fin 16), some (3, ⟨d, hd⟩)))
      (r₁ := 0) (r₂ := 0) (d₁ := 0) (d₂ := 0) (fs := AM m c) (fd := f) (q := partSh d)
      (mem_duty m _ (hu 2))
      (mem_duty m _ (hu 3))
      () () N₂ rfl (amount_x m c 2 ⟨d, hd⟩ 0) (amount_x m ((c : Fin 16) + ⟨d, hd⟩ : Fin 16) 3 ⟨d, hd⟩ 0)
      (owedA c (d + 1)) (by unfold owedA; exact SparseCore.ProtocolKit.sum_finFrom_succ hd _) (W := W)
      (Entails.of_eq (payload_x m c 2 ⟨d, hd⟩ 0).symm)
      (Entails.of_eq ((pointsTo_congr fun i hi => landed_a m c ⟨d, hd⟩ f i hi).trans (payload_x m _ 3 ⟨d, hd⟩ 0).symm))) $$ [HO Ht Ht' Hp Hg]
  · isplitr; · iapply (inv_at m K _ (some (2, ⟨d, hd⟩))); iexact HI
    isplitr; · iapply (inv_at m K _ (some (3, ⟨d, hd⟩))); iexact HI
    isplitl [Hp]; · iexact Hp
    isplitl [Hg]; · iexact Hg
    isplitl [HO]; · iexact HO
    isplitl [Ht]; · iexact Ht
    isplitr; · iapply (reached_at m K _ (some (2, ⟨d, hd⟩))); iexact HI
    isplitl [Ht']; · iexact Ht'
    iapply (reached_at m K _ (some (3, ⟨d, hd⟩))); iexact HI
  iintro ⟨HC, HO⟩
  iapply (show _ ⊢ _ from h)
  unfold Ph5 Env owing
  isplitr [HR]
  · isplitr
    · isplitr; · iexact HI
      iexact HL
    isplitl [HO]; · iexists W; iexact HO
    isplitl [HS]; · unfold amRes aPts; iexact HS
    isplitl [Ha]; · unfold aPts; iexact Ha
    iapply (Entails.of_eq (bigSep_finUpTo_succ hd _).symm)
    isplitl [HC]; · rw [if_pos (hu 2)]; iexact HC
    iexact HD
  iexact HR

/-! ## The waits -/

/-- What the wait at semaphore `i` of the `j`-th array takes, -/
def waitRes (c : Dev nD) (j : Fin 4) (i : Fin 16) : sProp 𝕄 :=
  if used j i then iprop(cred (tallyAt (xcell c j i) () (xAmt j)) ∗ atPos ER (xcell c j i) 0 ∅ 0) else iprop(emp)
/-- and what it leaves. -/
def waitDone (c : Dev nD) (j : Fin 4) (i : Fin 16) : sProp 𝕄 :=
  if used j i then iprop(xPay m c j i ∗ atPos ER (xcell c j i) 1 ∅ 0) else iprop(emp)

/-- Before the wait at semaphore `i` of the `j`-th array, the device owing `O`. -/
def PhW (c : Dev nD) (j : Fin 4) (O : CellTallies nD τ sig Unit) (i : ℕ) : sProp 𝕄 :=
  iprop(Env m K ∗ owing c O ∗ bigSep (finFrom 16 i) (waitRes c j) ∗ bigSep (finUpTo 16 i) (waitDone m c j))

theorem wait_step {α : Type} (c : Dev nD) (j : Fin 4) (i : ℕ) (hi : i < 16) (hu : j.val < 2 ∨ 1 ≤ i)
    {O : CellTallies nD τ sig Unit} (hO : Above (kLev (some (some (j, ⟨i, hi⟩)))) O)
    {s : DmaSem sig} (hs : s = xsem j ⟨i, hi⟩)
    {sp sp' : Space} {sh sh' : Shape} {e e' : EltTy} {src : Memref sig .tc sp' sh' e'} {dst : Memref sig .tc sp sh e}
    {hsrc : src.view.WordExact} {hdst : dst.view.WordExact} (hamt : dst.view.dmaCredit = xAmt j)
    {R : sProp 𝕄} {k : PUnit → Prog (TpuEff nD τ sig (Elt F) Λ₀ .tc) α} {Q : α → sProp 𝕄}
    (h : Tri c iprop(PhW m K c j O (i + 1) ∗ R) (k ⟨⟩) Q) :
    Tri c iprop(PhW m K c j O i ∗ R) (.op (.waitDma2 s src dst hsrc hdst) k) Q := by
  subst hs
  have hu' : used j ⟨i, hi⟩ := hu.imp id (fun h1 e => by have := congrArg Fin.val e; exact absurd this (by show i ≠ 0; omega))
  unfold Tri
  unfold PhW Env owing
  iintro ⟨⟨⟨#HI, #HL⟩, ⟨%W, HO⟩, HS, HD⟩, HR⟩
  ihave HS' := (Entails.of_eq (bigSep_finFrom_succ hi (waitRes (F := F) c j))) $$ HS
  icases HS' with ⟨Hd, HS⟩
  ihave Hd' := (Entails.of_eq (show waitRes (F := F) c j ⟨i, hi⟩ = _ from if_pos hu')) $$ Hd
  icases Hd' with ⟨Hc, Hat⟩
  iapply (Rounds.wp_wait_rest_token 𝒱₀ ER (Rd m) (c : Thread nD τ) none (κ := K (c, some (j, ⟨i, hi⟩))) (sm := .dma (xsem j ⟨i, hi⟩)) (k' := xAmt j)
      (fun K' => (wpE_waitDma2_eq 𝒱₀ (c : Thread nD τ) none Set.univ K').trans (by rw [hamt])) (Set.mem_univ _) () (O := O) (W := W) (R := 0) (m := 0) (T := ∅)
      (by rw [show ((c : Thread nD τ), SemLoc.dma (xsem j ⟨i, hi⟩)) = xcell c j ⟨i, hi⟩ from rfl, expect_x m c hu', Nat.zero_add])) $$ [HO Hc Hat]
  · isplitr; · iapply (inv_at m K _ (some (j, ⟨i, hi⟩))); iexact HI
    isplitl [Hc]; · iexact Hc
    isplitl [HO]; · iexact HO
    isplitr
    · iapply (mayWait c (.dma (xsem j ⟨i, hi⟩)) O (by
        rw [show lv ((c : Thread nD τ), SemLoc.dma (xsem j ⟨i, hi⟩)) () = _ from lv_kcell c (some (j, ⟨i, hi⟩))]; exact hO)); iexact HL
    iexact Hat
  iintro ⟨HO, Hat, -, Hp⟩
  ihave Hp' := (show (bigSep ((Rd m).duties ((c : Thread nD τ), SemLoc.dma (xsem j ⟨i, hi⟩)) 0 \ ∅) fun e => (Rd m).payload ((c : Thread nD τ), SemLoc.dma (xsem j ⟨i, hi⟩)) 0 e : sProp 𝕄) ⊢ xPay m c j ⟨i, hi⟩ from Entails.of_eq (rest_x m c hu')) $$ Hp
  iapply (show _ ⊢ _ from h)
  unfold PhW Env owing
  isplitr [HR]
  · isplitr
    · isplitr; · iexact HI
      iexact HL
    isplitl [HO]; · iexists _; iexact HO
    isplitl [HS]; · iexact HS
    iapply (Entails.of_eq (bigSep_finUpTo_succ hi _).symm)
    isplitl [Hat Hp']
    · iapply (Entails.of_eq (show waitDone m c j ⟨i, hi⟩ = _ from if_pos hu').symm)
      isplitl [Hp']; · iexact Hp'
      iexact Hat
    iexact HD
  iexact HR

end Cert.Proof.Dist
-- ==== Proof.PartsA.lean ====
/-
# The first half of a device's program: the barrier and the sends of the blocks

The program as printed is a sequence of parts. A part's lemma says what state it takes into what state, in front of any
continuation.
-/
module

public import proofs.«01_k».proof.Proof.Steps

@[expose] public section

noncomputable section

namespace Cert.Proof.Dist

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom finUpTo mem_finFrom mem_finUpTo bigSep_finFrom_succ bigSep_finUpTo_succ add_sum_finFrom_succ
  bigSep_finFrom_self bigSep_finUpTo_zero finFrom_self)

variable {F : FTy → Type} [FloatOps F]

local notation "𝕄" => MT nD τ sig Unit (Elt F) ℕ UU ℕ

variable (m : (ℓ : Loc nD τ sig) → Buf (Elt F) ℓ) (K : Dev nD × Key → ℕ)

theorem Tri.deviceId {α : Type} {c : Dev nD} {A : sProp 𝕄} {k : Dev nD → Prog (TpuEff nD τ sig (Elt F) Λ₀ .tc) α} {Q : α → sProp 𝕄}
    (h : Tri c A (k c) Q) : Tri c A (.op .deviceId k) Q := by
  unfold Tri at h ⊢
  rw [wp_deviceId]; exact h

/-! ## Across the barrier -/

/-- The tokens of the sends of blocks, with the blocks, -/
def tok2 (c : Dev nD) : sProp 𝕄 :=
  bigSep (finFrom 16 0) fun d => iprop(dutyTok ER (xcell c 0 d) 0 0 ∗ dutyTok ER (xcell ((c : Fin 16) + d : Fin 16) 1 c) 0 0
    ∗ xPts m c ((c : Fin 16) + d : Fin 16))
/-- and the tokens of the sends of the maximum. -/
def tok5 (c : Dev nD) : sProp 𝕄 :=
  bigSep (finFrom 16 1) fun d => iprop(dutyTok ER (xcell c 2 d) 0 0 ∗ dutyTok ER (xcell ((c : Fin 16) + d : Fin 16) 3 d) 0 0)
/-- The device's own columns of its `xg`, which its copy to itself overwrites. -/
def own (c : Dev nD) : sProp 𝕄 := iprop(∃ f, gPts c c f)

/-- What the device holds until the barrier for after it, -/
def Mid (c : Dev nD) : sProp 𝕄 := iprop(barRes c ∗ tok2 m c ∗ tok5 c ∗ own c)
/-- and what it holds after it for the sends of the maximum and the end. -/
def Mid' (c : Dev nD) : sProp 𝕄 := iprop(atPos ER (barCell c) 1 ∅ 0 ∗ bigSep (finFrom 16 1) (amRes c))

theorem entry_done (c : Dev nD) (R : sProp 𝕄) :
    iprop(Ph1 m K c 16 ∗ (Mid m c ∗ R)) ⊢ iprop((Env m K ∗ owing c (owedA c 1 + owedX c 0) ∗ barRes c) ∗ ((tok2 m c ∗ tok5 c ∗ own c) ∗ R)) := by
  unfold Ph1 Mid
  rw [show owedB c 16 = 0 by unfold owedB; rw [finFrom_self]; rfl, add_zero]
  iintro ⟨⟨HE, HO, -⟩, ⟨HB, H2, H5, Hg⟩, HR⟩
  isplitl [HE HO HB]
  · isplitl [HE]; · iexact HE
    isplitl [HO]; · iexact HO
    iexact HB
  isplitr [HR]
  · isplitl [H2]; · iexact H2
    isplitl [H5]; · iexact H5
    iexact Hg
  iexact HR

theorem fin_add_zero : ∀ a : Fin 16, a + ⟨0, by decide⟩ = a := by decide

theorem bar_done (c : Dev nD) (R : sProp 𝕄) :
    iprop((Env m K ∗ owing c (owedA c 1 + owedX c 0) ∗ barDone c) ∗ ((tok2 m c ∗ tok5 c ∗ own c) ∗ R)) ⊢ iprop(Ph2 m K c 0 ∗ (Mid' c ∗ R)) := by
  unfold Ph2 Mid' barDone tok2 tok5 own
  iintro ⟨⟨HE, HO, Hat, HB⟩, ⟨H2, H5, Hg⟩, HR⟩
  ihave HB' := (bigSep_unzip (s := finFrom 16 1) (Θ := fun e => barPay (F := F) c e)
    (Φ := fun e : Fin 16 => iprop(∃ f, gPts ((c : Fin 16) + e : Fin 16) c f)) (Ψ := fun e : Fin 16 => iprop(∃ f, aPts ((c : Fin 16) + e : Fin 16) e fullShare f))
    fun e _ => by unfold barPay; exact BI.Entails.refl _) $$ HB
  icases HB' with ⟨HG, HA⟩
  isplitl [HE HO H2 Hg HG]
  · isplitl [HE]; · iexact HE
    isplitl [HO]; · iexact HO
    isplitl [H2 Hg HG]
    · iapply (bigSep_zip (s := finFrom 16 0) (Θ := sendRes m c)
        (Φ := fun d => iprop(dutyTok ER (xcell c 0 d) 0 0 ∗ dutyTok ER (xcell ((c : Fin 16) + d : Fin 16) 1 c) 0 0 ∗ xPts m c ((c : Fin 16) + d : Fin 16)))
        (Ψ := fun d => iprop(∃ f, gPts ((c : Fin 16) + d : Fin 16) c f)) fun d _ => by
          unfold sendRes
          iintro ⟨⟨H1, H2, H3⟩, H4⟩
          isplitl [H1]; · iexact H1
          isplitl [H2]; · iexact H2
          isplitl [H3]; · iexact H3
          iexact H4)
      isplitl [H2]; · iexact H2
      iapply (Entails.of_eq (bigSep_finFrom_succ (n := 16) (k := 0) (by decide) fun d => (iprop(∃ f, gPts ((c : Fin 16) + d : Fin 16) c f) : sProp 𝕄)).symm)
      isplitl [Hg]
      · rw [fin_add_zero c]; iexact Hg
      iexact HG
    rw [bigSep_finUpTo_zero]
    iempintro
  isplitr [HR]
  · isplitl [Hat]; · iexact Hat
    iapply (bigSep_zip (s := finFrom 16 1) (Θ := amRes (F := F) c)
        (Φ := fun d => iprop(dutyTok ER (xcell c 2 d) 0 0 ∗ dutyTok ER (xcell ((c : Fin 16) + d : Fin 16) 3 d) 0 0))
        (Ψ := fun d => iprop(∃ f, aPts ((c : Fin 16) + d : Fin 16) d fullShare f)) fun d _ => by
          unfold amRes
          iintro ⟨⟨H1, H2⟩, H4⟩
          isplitl [H1]; · iexact H1
          isplitl [H2]; · iexact H2
          iexact H4)
    isplitl [H5]; · iexact H5
    iexact HA
  iexact HR

/-! ## The parts -/

variable {α : Type} (c : Dev nD)

/-- `send_step` as the program writes it. -/
theorem send_at {R : sProp 𝕄} {Q : α → sProp 𝕄} (n : Dev nD) (d : ℕ) (hd : d < 16) (hn : n.val = (c.val + d) % 16) (w : BitVec 32) (he : k0_off3 c w = ![256 * ((c : Fin 16) + ⟨d, hd⟩ : Fin 16).val, 0])
    {i₃ i₂ hs hr hsc hsrc hdst hsem} {k : PUnit → Prog (TpuEff nD τ sig (Elt F) Λ₀ .tc) α}
    (h : Tri c iprop(Ph2 m K c (d + 1) ∗ R) (k ⟨⟩) Q) :
    Tri c iprop(Ph2 m K c d ∗ R) (.op (.enqueueDma (xM.slice (Rect.unit (s := S4096x256) (k0_off3 c w) S256x256.size i₃) (fun _ => rfl))
      (.remote (Dev.tc n : Thread nD τ) (gM.slice (Rect.unit (s := S256x4096) (k0_off2 c) S256x256.size i₂) (fun _ => rfl))
        (.dma ((cc0_scratch2.slice (Rect.unit (s := S16) ![d] S1.size hs)).squeeze S_ squeezes_S1_S_).sem) hsc)
      (.dma ((cc0_scratch3.slice (Rect.unit (s := S16) (k0_off1 c) S1.size hr)).squeeze S_ squeezes_S1_S_).sem) hsrc hdst hsem) k) Q :=
  send_step m K c n d hd hn he (k0_off2_eq c) (sem_arg5' d hd rfl hs) (sem_arg6' c.val c.isLt (k0_off1_eq c) hr) h

variable {hx : xM.IsWhole} {hw : wM.IsWhole} {ho : oM.IsWhole} {hg : gM.IsWhole} {ha : aM.IsWhole}

theorem part1 {R : sProp 𝕄} {Q : α → sProp 𝕄} {k} (h : ∀ a b d e, Tri c iprop(Ph1 m K c 3 ∗ R) (k ⟨c, a, SemArray.scalar (sig.barrier 0 rfl), b, d, e⟩) Q) :
    Tri c iprop(Ph1 m K c 1 ∗ R) (k0_part1 xM hx wM hw oM ho gM hg aM ha cc0_scratch2 cc0_scratch3 cc0_scratch4 cc0_scratch5 >>= k) Q := by
  rw [k0_part1_eq_skeleton]; unfold k0_part1_skel
  simp only [semSignalWord, Prog.lift, Prog.bind_op, Prog.bind_ret, Prog.pure_eq_ret]
  refine Tri.deviceId ?_
  refine sig_step m K c _ 1 (by decide) (by decide) (congrFun (dev_signal c) 0) ?_
  refine sig_step m K c _ 2 (by decide) (by decide) (congrFun (dev_signal c) 1) ?_
  exact h _ _ _ _

theorem part2 {R : sProp 𝕄} {Q : α → sProp 𝕄} {k} {v₁ v₂ v₃ v₄} (h : ∀ r, Tri c iprop(Ph1 m K c 5 ∗ R) (k r) Q) :
    Tri c iprop(Ph1 m K c 3 ∗ R) (k0_part2 xM hx wM hw oM ho gM hg aM ha cc0_scratch2 cc0_scratch3 cc0_scratch4 cc0_scratch5
      c v₁ (SemArray.scalar (sig.barrier 0 rfl)) v₂ v₃ v₄ >>= k) Q := by
  rw [k0_part2_eq_skeleton]; unfold k0_part2_skel
  simp only [semSignalWord, semWaitWord, Prog.lift, Prog.bind_op, Prog.bind_ret, Prog.pure_eq_ret]
  refine sig_step m K c _ 3 (by decide) (by decide) (congrFun (dev_signal c) 2) ?_
  refine sig_step m K c _ 4 (by decide) (by decide) (congrFun (dev_signal c) 3) ?_
  exact h _

theorem part3 {R : sProp 𝕄} {Q : α → sProp 𝕄} {k} {v₁ v₂ v₃ v₄} (h : ∀ r, Tri c iprop(Ph1 m K c 8 ∗ R) (k r) Q) :
    Tri c iprop(Ph1 m K c 5 ∗ R) (k0_part3 xM hx wM hw oM ho gM hg aM ha cc0_scratch2 cc0_scratch3 cc0_scratch4 cc0_scratch5
      c v₁ (SemArray.scalar (sig.barrier 0 rfl)) v₂ v₃ v₄ >>= k) Q := by
  rw [k0_part3_eq_skeleton]; unfold k0_part3_skel
  simp only [semSignalWord, semWaitWord, Prog.lift, Prog.bind_op, Prog.bind_ret, Prog.pure_eq_ret]
  refine sig_step m K c _ 5 (by decide) (by decide) (congrFun (dev_signal c) 4) ?_
  refine sig_step m K c _ 6 (by decide) (by decide) (congrFun (dev_signal c) 5) ?_
  refine sig_step m K c _ 7 (by decide) (by decide) (congrFun (dev_signal c) 6) ?_
  exact h _

theorem part4 {R : sProp 𝕄} {Q : α → sProp 𝕄} {k} {v₁ v₂ v₃ v₄} (h : ∀ r, Tri c iprop(Ph1 m K c 10 ∗ R) (k r) Q) :
    Tri c iprop(Ph1 m K c 8 ∗ R) (k0_part4 xM hx wM hw oM ho gM hg aM ha cc0_scratch2 cc0_scratch3 cc0_scratch4 cc0_scratch5
      c v₁ (SemArray.scalar (sig.barrier 0 rfl)) v₂ v₃ v₄ >>= k) Q := by
  rw [k0_part4_eq_skeleton]; unfold k0_part4_skel
  simp only [semSignalWord, semWaitWord, Prog.lift, Prog.bind_op, Prog.bind_ret, Prog.pure_eq_ret]
  refine sig_step m K c _ 8 (by decide) (by decide) (congrFun (dev_signal c) 7) ?_
  refine sig_step m K c _ 9 (by decide) (by decide) (congrFun (dev_signal c) 8) ?_
  exact h _

theorem part5 {R : sProp 𝕄} {Q : α → sProp 𝕄} {k} {v₁ v₂ v₃ v₄} (h : ∀ r, Tri c iprop(Ph1 m K c 13 ∗ R) (k r) Q) :
    Tri c iprop(Ph1 m K c 10 ∗ R) (k0_part5 xM hx wM hw oM ho gM hg aM ha cc0_scratch2 cc0_scratch3 cc0_scratch4 cc0_scratch5
      c v₁ (SemArray.scalar (sig.barrier 0 rfl)) v₂ v₃ v₄ >>= k) Q := by
  rw [k0_part5_eq_skeleton]; unfold k0_part5_skel
  simp only [semSignalWord, semWaitWord, Prog.lift, Prog.bind_op, Prog.bind_ret, Prog.pure_eq_ret]
  refine sig_step m K c _ 10 (by decide) (by decide) (congrFun (dev_signal c) 9) ?_
  refine sig_step m K c _ 11 (by decide) (by decide) (congrFun (dev_signal c) 10) ?_
  refine sig_step m K c _ 12 (by decide) (by decide) (congrFun (dev_signal c) 11) ?_
  exact h _

theorem part6 {R : sProp 𝕄} {Q : α → sProp 𝕄} {k} {v₁ v₂ v₃ v₄} (h : ∀ r, Tri c iprop(Ph1 m K c 15 ∗ R) (k r) Q) :
    Tri c iprop(Ph1 m K c 13 ∗ R) (k0_part6 xM hx wM hw oM ho gM hg aM ha cc0_scratch2 cc0_scratch3 cc0_scratch4 cc0_scratch5
      c v₁ (SemArray.scalar (sig.barrier 0 rfl)) v₂ v₃ v₄ >>= k) Q := by
  rw [k0_part6_eq_skeleton]; unfold k0_part6_skel
  simp only [semSignalWord, semWaitWord, Prog.lift, Prog.bind_op, Prog.bind_ret, Prog.pure_eq_ret]
  refine sig_step m K c _ 13 (by decide) (by decide) (congrFun (dev_signal c) 12) ?_
  refine sig_step m K c _ 14 (by decide) (by decide) (congrFun (dev_signal c) 13) ?_
  exact h _

theorem part7 {R : sProp 𝕄} {Q : α → sProp 𝕄} {k} {v₁ v₂ v₃ v₄} (h : ∀ r, Tri c iprop(Ph2 m K c 1 ∗ (Mid' c ∗ R)) (k r) Q) :
    Tri c iprop(Ph1 m K c 15 ∗ (Mid m c ∗ R)) (k0_part7 xM hx wM hw oM ho gM hg aM ha cc0_scratch2 cc0_scratch3 cc0_scratch4 cc0_scratch5
      c v₁ (SemArray.scalar (sig.barrier 0 rfl)) v₂ v₃ v₄ >>= k) Q := by
  rw [k0_part7_eq_skeleton]; unfold k0_part7_skel
  simp only [semSignalWord, semWaitWord, Prog.lift, Prog.bind_op, Prog.bind_ret, Prog.pure_eq_ret]
  refine sig_step m K c _ 15 (by decide) (by decide) (congrFun (dev_signal c) 14) ?_
  refine Tri.pre (entry_done m K c R) (bar_step m K c (Tri.pre (bar_done m K c R) ?_))
  refine send_at m K c _ 0 (by decide) (congrFun (dev_send c) 0) 0#32 (off_send c 0) ?_
  exact h _

theorem part8 {R : sProp 𝕄} {Q : α → sProp 𝕄} {k} {v₁ v₂ v₃ v₄ v₅ v₆} (h : ∀ r, Tri c iprop(Ph2 m K c 3 ∗ R) (k r) Q) :
    Tri c iprop(Ph2 m K c 1 ∗ R) (k0_part8 xM hx wM hw oM ho gM hg aM ha cc0_scratch2 cc0_scratch3 cc0_scratch4 cc0_scratch5
      c v₁ v₂ v₃ v₄ v₅ v₆ >>= k) Q := by
  rw [k0_part8_eq_skeleton]; unfold k0_part8_skel
  simp only [Prog.lift, Prog.bind_op, Prog.bind_ret, Prog.pure_eq_ret]
  refine send_at m K c _ 1 (by decide) (congrFun (dev_send c) 1) 1#32 (off_send c 1) ?_
  refine send_at m K c _ 2 (by decide) (congrFun (dev_send c) 2) 2#32 (off_send c 2) ?_
  exact h _

theorem part9 {R : sProp 𝕄} {Q : α → sProp 𝕄} {k} {v₁ v₂} (h : ∀ r, Tri c iprop(Ph2 m K c 4 ∗ R) (k r) Q) :
    Tri c iprop(Ph2 m K c 3 ∗ R) (k0_part9 xM hx wM hw oM ho gM hg aM ha cc0_scratch2 cc0_scratch3 cc0_scratch4 cc0_scratch5
      c v₁ v₂ >>= k) Q := by
  rw [k0_part9_eq_skeleton]; unfold k0_part9_skel
  simp only [Prog.lift, Prog.bind_op, Prog.bind_ret, Prog.pure_eq_ret]
  refine send_at m K c _ 3 (by decide) (congrFun (dev_send c) 3) 3#32 (off_send c 3) ?_
  exact h _

theorem part10 {R : sProp 𝕄} {Q : α → sProp 𝕄} {k} {v₁ v₂ v₃} (h : ∀ r, Tri c iprop(Ph2 m K c 6 ∗ R) (k r) Q) :
    Tri c iprop(Ph2 m K c 4 ∗ R) (k0_part10 xM hx wM hw oM ho gM hg aM ha cc0_scratch2 cc0_scratch3 cc0_scratch4 cc0_scratch5
      c v₁ v₂ v₃ >>= k) Q := by
  rw [k0_part10_eq_skeleton]; unfold k0_part10_skel
  simp only [Prog.lift, Prog.bind_op, Prog.bind_ret, Prog.pure_eq_ret]
  refine send_at m K c _ 4 (by decide) (congrFun (dev_send c) 4) 4#32 (off_send c 4) ?_
  refine send_at m K c _ 5 (by decide) (congrFun (dev_send c) 5) 5#32 (off_send c 5) ?_
  exact h _

theorem part11 {R : sProp 𝕄} {Q : α → sProp 𝕄} {k} {v₁ v₂ v₃ v₄ v₅ v₆} (h : ∀ r, Tri c iprop(Ph2 m K c 8 ∗ R) (k r) Q) :
    Tri c iprop(Ph2 m K c 6 ∗ R) (k0_part11 xM hx wM hw oM ho gM hg aM ha cc0_scratch2 cc0_scratch3 cc0_scratch4 cc0_scratch5
      c v₁ v₂ v₃ v₄ v₅ v₆ >>= k) Q := by
  rw [k0_part11_eq_skeleton]; unfold k0_part11_skel
  simp only [Prog.lift, Prog.bind_op, Prog.bind_ret, Prog.pure_eq_ret]
  refine send_at m K c _ 6 (by decide) (congrFun (dev_send c) 6) 6#32 (off_send c 6) ?_
  refine send_at m K c _ 7 (by decide) (congrFun (dev_send c) 7) 7#32 (off_send c 7) ?_
  exact h _

theorem part12 {R : sProp 𝕄} {Q : α → sProp 𝕄} {k} {v₁ v₂} (h : ∀ r, Tri c iprop(Ph2 m K c 9 ∗ R) (k r) Q) :
    Tri c iprop(Ph2 m K c 8 ∗ R) (k0_part12 xM hx wM hw oM ho gM hg aM ha cc0_scratch2 cc0_scratch3 cc0_scratch4 cc0_scratch5
      c v₁ v₂ >>= k) Q := by
  rw [k0_part12_eq_skeleton]; unfold k0_part12_skel
  simp only [Prog.lift, Prog.bind_op, Prog.bind_ret, Prog.pure_eq_ret]
  refine send_at m K c _ 8 (by decide) (congrFun (dev_send c) 8) 8#32 (off_send c 8) ?_
  exact h _

theorem part13 {R : sProp 𝕄} {Q : α → sProp 𝕄} {k} {v₁ v₂ v₃} (h : ∀ r, Tri c iprop(Ph2 m K c 11 ∗ R) (k r) Q) :
    Tri c iprop(Ph2 m K c 9 ∗ R) (k0_part13 xM hx wM hw oM ho gM hg aM ha cc0_scratch2 cc0_scratch3 cc0_scratch4 cc0_scratch5
      c v₁ v₂ v₃ >>= k) Q := by
  rw [k0_part13_eq_skeleton]; unfold k0_part13_skel
  simp only [Prog.lift, Prog.bind_op, Prog.bind_ret, Prog.pure_eq_ret]
  refine send_at m K c _ 9 (by decide) (congrFun (dev_send c) 9) 9#32 (off_send c 9) ?_
  refine send_at m K c _ 10 (by decide) (congrFun (dev_send c) 10) 10#32 (off_send c 10) ?_
  exact h _

theorem part14 {R : sProp 𝕄} {Q : α → sProp 𝕄} {k} {v₁ v₂ v₃ v₄ v₅ v₆} (h : ∀ r, Tri c iprop(Ph2 m K c 13 ∗ R) (k r) Q) :
    Tri c iprop(Ph2 m K c 11 ∗ R) (k0_part14 xM hx wM hw oM ho gM hg aM ha cc0_scratch2 cc0_scratch3 cc0_scratch4 cc0_scratch5
      c v₁ v₂ v₃ v₄ v₅ v₆ >>= k) Q := by
  rw [k0_part14_eq_skeleton]; unfold k0_part14_skel
  simp only [Prog.lift, Prog.bind_op, Prog.bind_ret, Prog.pure_eq_ret]
  refine send_at m K c _ 11 (by decide) (congrFun (dev_send c) 11) 11#32 (off_send c 11) ?_
  refine send_at m K c _ 12 (by decide) (congrFun (dev_send c) 12) 12#32 (off_send c 12) ?_
  exact h _

theorem part15 {R : sProp 𝕄} {Q : α → sProp 𝕄} {k} {v₁ v₂} (h : ∀ r, Tri c iprop(Ph2 m K c 14 ∗ R) (k r) Q) :
    Tri c iprop(Ph2 m K c 13 ∗ R) (k0_part15 xM hx wM hw oM ho gM hg aM ha cc0_scratch2 cc0_scratch3 cc0_scratch4 cc0_scratch5
      c v₁ v₂ >>= k) Q := by
  rw [k0_part15_eq_skeleton]; unfold k0_part15_skel
  simp only [Prog.lift, Prog.bind_op, Prog.bind_ret, Prog.pure_eq_ret]
  refine send_at m K c _ 13 (by decide) (congrFun (dev_send c) 13) 13#32 (off_send c 13) ?_
  exact h _

theorem part16 {R : sProp 𝕄} {Q : α → sProp 𝕄} {k} {v₁ v₂ v₃} (h : ∀ r, Tri c iprop(Ph2 m K c 16 ∗ R) (k r) Q) :
    Tri c iprop(Ph2 m K c 14 ∗ R) (k0_part16 xM hx wM hw oM ho gM hg aM ha cc0_scratch2 cc0_scratch3 cc0_scratch4 cc0_scratch5
      c v₁ v₂ v₃ >>= k) Q := by
  rw [k0_part16_eq_skeleton]; unfold k0_part16_skel
  simp only [Prog.lift, Prog.bind_op, Prog.bind_ret, Prog.pure_eq_ret]
  refine send_at m K c _ 14 (by decide) (congrFun (dev_send c) 14) 14#32 (off_send c 14) ?_
  refine send_at m K c _ 15 (by decide) (congrFun (dev_send c) 15) 15#32 (off_send c 15) ?_
  exact h _

end Cert.Proof.Dist
-- ==== Proof.Memory.lean ====
/-
# The kernel's loads and stores
-/
module

public import proofs.«01_k».proof.Proof.Steps

@[expose] public section

noncomputable section

namespace Cert.Proof.Dist

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom finUpTo mem_finFrom mem_finUpTo bigSep_finFrom_succ bigSep_finUpTo_succ add_sum_finFrom_succ
  bigSep_finFrom_self bigSep_finUpTo_zero finFrom_self)

variable {F : FTy → Type} [FloatOps F]

local notation "𝕄" => MT nD τ sig Unit (Elt F) ℕ UU ℕ

variable (m : (ℓ : Loc nD τ sig) → Buf (Elt F) ℓ) (K : Dev nD × Key → ℕ)

/-! ## `w` and the result -/

/-- `w`, staged, -/
def wPts (c : Dev nD) : sProp 𝕄 := (((c : Thread nD τ).loc cc0_stg1_0) ↦[Finset.univ]{fullShare} wstg m c)
/-- the result being made, -/
def oPts (c : Dev nD) (f : (cc0_stg2_0 : Ref sig .tc).ty.Contents (Elt F)) : sProp 𝕄 :=
  (((c : Thread nD τ).loc cc0_stg2_0) ↦[Finset.univ]{fullShare} f)
/-- both, -/
def Wo (c : Dev nD) (f : (cc0_stg2_0 : Ref sig .tc).ty.Contents (Elt F)) : sProp 𝕄 := iprop(wPts m c ∗ oPts c f)
/-- and the whole array of maxima. -/
def aAll (c : Dev nD) : sProp 𝕄 := (((c : Thread nD τ).loc cc0_scratch1) ↦[Finset.univ]{fullShare} AM m c)

variable {α : Type} (c : Dev nD)

theorem load_w {A R : sProp 𝕄} {Q : α → sProp 𝕄} {f} {r : LoadRect S4096x2048} {hl} {k : (r.shape.Idx → Elt F .f32) → Prog (TpuEff nD τ sig (Elt F) Λ₀ .tc) α}
    (h : Tri c iprop(A ∗ (Wo m c f ∗ R)) (k (wM.view.readAt (Elt F) r (wstg m c))) Q) :
    Tri c iprop(A ∗ (Wo m c f ∗ R)) (.op (.load wM r hl) k) Q := by
  unfold Tri Wo wPts
  iintro ⟨HA, ⟨Hw, Ho⟩, HR⟩
  iapply (wp_load 𝒱₀ (c : Thread nD τ) none Set.univ (m := wM) (r := r) (f := wstg m c) (Finset.subset_univ _)) $$ [Hw]
  · iexact Hw
  iintro Hw
  iapply (show _ ⊢ _ from h)
  unfold Wo wPts
  isplitl [HA]; · iexact HA
  isplitl [Hw Ho]
  · isplitl [Hw]; · iexact Hw
    iexact Ho
  iexact HR

theorem zeros₂ : (![0, 0] : Fin 2 → ℕ) = fun _ => 0 := by decide
theorem zeros₃ : (![0, 0, 0] : Fin 3 → ℕ) = fun _ => 0 := by decide

theorem load_o {A R : sProp 𝕄} {Q : α → sProp 𝕄} {f} {inb} {hl} {k : (S256x2048.Idx → Elt F .f32) → Prog (TpuEff nD τ sig (Elt F) Λ₀ .tc) α}
    (h : Tri c iprop(A ∗ (Wo m c f ∗ R)) (k f) Q) :
    Tri c iprop(A ∗ (Wo m c f ∗ R)) (.op (.load oM (Rect.unit (s := S256x2048) ![0, 0] S256x2048.size inb).toLoadRect hl) k) Q := by
  unfold Tri Wo oPts
  iintro ⟨HA, ⟨Hw, Ho⟩, HR⟩
  iapply (wp_load 𝒱₀ (c : Thread nD τ) none Set.univ (m := oM) (r := (Rect.unit (s := S256x2048) ![0, 0] S256x2048.size inb).toLoadRect) (f := f) (Finset.subset_univ _)) $$ [Ho]
  · iexact Ho
  iintro Ho
  rw [show oM.view.readAt (Elt F) (Rect.unit (s := S256x2048) ![0, 0] S256x2048.size inb).toLoadRect f = f from
    Memref.readAt_unit_zero (Elt F) cc0_stg2_0 zeros₂ inb f]
  iapply (show _ ⊢ _ from h)
  unfold Wo oPts
  isplitl [HA]; · iexact HA
  isplitl [Hw Ho]
  · isplitl [Hw]; · iexact Hw
    iexact Ho
  iexact HR

theorem store_o {A R : sProp 𝕄} {Q : α → sProp 𝕄} {f} {w : S256x2048.Idx → Elt F .f32} {inb} {hx hm} {k : PUnit → Prog (TpuEff nD τ sig (Elt F) Λ₀ .tc) α}
    (h : Tri c iprop(A ∗ (Wo m c w ∗ R)) (k ⟨⟩) Q) :
    Tri c iprop(A ∗ (Wo m c f ∗ R)) (.op (.store oM (Rect.unit (s := S256x2048) ![0, 0] S256x2048.size inb) w Finset.univ hx hm) k) Q := by
  unfold Tri Wo oPts
  iintro ⟨HA, ⟨Hw, Ho⟩, HR⟩
  iapply (wp_store 𝒱₀ (c : Thread nD τ) none Set.univ (m := oM) (r := Rect.unit (s := S256x2048) ![0, 0] S256x2048.size inb) (w := w) (Mk := Finset.univ)
    (f := f) (S := Finset.univ) (Finset.subset_univ _)) $$ [Ho]
  · iexact Ho
  iintro Ho
  rw [show (oM.access (Rect.unit (s := S256x2048) ![0, 0] S256x2048.size inb)).write (Elt F) f w Finset.univ = w from
    Memref.write_access_unit_zero_univ (Elt F) cc0_stg2_0 zeros₂ inb f w]
  iapply (show _ ⊢ _ from h)
  unfold Wo oPts
  isplitl [HA]; · iexact HA
  isplitl [Hw Ho]
  · isplitl [Hw]; · iexact Hw
    iexact Ho
  iexact HR

/-! ## `xg` -/

/-- The columns that the first `n` landings fill. -/
theorem cols_sub (q n : ℕ) (hn : 4 * q + 4 ≤ n) (hq : q < 4) (inb : ∀ a, (![0, 1024 * q] : Fin 2 → ℕ) a + S256x1024.size a ≤ S256x4096.size a) :
    (gM.access (Rect.unit (s := S256x4096) ![0, 1024 * q] S256x1024.size inb)).set ⊆ (finUpTo 16 n).biUnion fun s => (gCol s).view.set := by
  intro i hi
  have hi' := (ValueKit.mem_set_slice_whole_iff cc0_scratch0 _ i (Rect.mem_set_unit.trans Fin.forall_fin_two)).mp hi
  have h1 : 1024 * q ≤ (i (1 : Fin 2)).val := hi'.2.1
  have h2 : (i (1 : Fin 2)).val < 1024 * q + 1024 := hi'.2.2
  have h3 : (i (1 : Fin 2)).val / 256 < n := by omega
  have h4 : (i (1 : Fin 2)).val / 256 < 16 := by omega
  exact Finset.mem_biUnion.mpr ⟨⟨_, h4⟩, mem_finUpTo.mpr h3, (mem_gCol ⟨_, h4⟩ i).mpr rfl⟩

theorem load_g (q n : ℕ) (hn : 4 * q + 4 ≤ n) (hq : q < 4) {O : CellTallies nD τ sig Unit} {R : sProp 𝕄} {Q : α → sProp 𝕄} {o : Fin 2 → ℕ} (ho : o = ![0, 1024 * q])
    {inb} {hl} {k : (S256x1024.Idx → Elt F .f32) → Prog (TpuEff nD τ sig (Elt F) Λ₀ .tc) α}
    (h : Tri c iprop(PhW m K c 1 O n ∗ R) (k (gM.view.readAt (Elt F) (Rect.unit (s := S256x4096) o S256x1024.size inb).toLoadRect (XG m c))) Q) :
    Tri c iprop(PhW m K c 1 O n ∗ R) (.op (.load gM (Rect.unit (s := S256x4096) o S256x1024.size inb).toLoadRect hl) k) Q := by
  subst ho
  have hu : ∀ s, waitDone m c 1 s = iprop(xPay m c 1 s ∗ atPos ER (xcell c 1 s) 1 ∅ 0) := fun s => if_pos (Or.inl (by decide))
  unfold Tri PhW
  iintro ⟨⟨HE, HO, HS, HD⟩, HR⟩
  ihave HD' := (bigSep_unzip (s := finUpTo 16 n) (Θ := waitDone m c 1) (Φ := fun s => gPts c s (XG m c)) (Ψ := fun s => atPos ER (xcell c 1 s) 1 ∅ 0)
    fun s _ => Entails.of_eq (hu s)) $$ HD
  icases HD' with ⟨HG, Hat⟩
  unfold gPts
  ihave HG' := (Entails.of_eq (pointsTo_biUnion (ℓ := (c : Thread nD τ).loc cc0_scratch0) (finUpTo 16 n) (fun s => (gCol s).view.set)
    (fun s _ s' _ hs => gCol_disjoint hs)).symm) $$ HG
  iapply (wp_load_rect 𝒱₀ (c : Thread nD τ) none Set.univ (m := gM) (r := Rect.unit (s := S256x4096) ![0, 1024 * q] S256x1024.size inb) (f := XG m c)
    (cols_sub q n hn hq inb)) $$ [HG']
  · iexact HG'
  iintro HG
  iapply (show _ ⊢ _ from h)
  unfold PhW
  isplitr [HR]
  · isplitl [HE]; · iexact HE
    isplitl [HO]; · iexact HO
    isplitl [HS]; · iexact HS
    iapply (bigSep_zip (s := finUpTo 16 n) (Θ := waitDone m c 1) (Φ := fun s => gPts c s (XG m c)) (Ψ := fun s => atPos ER (xcell c 1 s) 1 ∅ 0)
      fun s _ => Entails.of_eq (hu s).symm)
    isplitl [HG]
    · unfold gPts
      iapply (Entails.of_eq (pointsTo_biUnion (ℓ := (c : Thread nD τ).loc cc0_scratch0) (finUpTo 16 n) (fun s => (gCol s).view.set)
        (fun s _ s' _ hs => gCol_disjoint hs)))
      iexact HG
    iexact Hat
  iexact HR

/-! ## The maxima -/

theorem before_zero : ∀ c : Dev nD, before c 0 = c := by decide

theorem slot0_set (inb : ∀ a, (![0, 0, 0] : Fin 3 → ℕ) a + S1x8x128.size a ≤ S16x8x128.size a) :
    (aM.access (Rect.unit (s := S16x8x128) ![0, 0, 0] S1x8x128.size inb)).set = (aSlot 0).view.set := (View.set_reshape _ _).symm

theorem load_a0 {A B R : sProp 𝕄} {Q : α → sProp 𝕄} {f} {inb} {hl} {k : (S1x8x128.Idx → Elt F .f32) → Prog (TpuEff nD τ sig (Elt F) Λ₀ .tc) α}
    (h : ∀ v, Tri c iprop(A ∗ (B ∗ (aPts c 0 fullShare f ∗ R))) (k v) Q) :
    Tri c iprop(A ∗ (B ∗ (aPts c 0 fullShare f ∗ R))) (.op (.load aM (Rect.unit (s := S16x8x128) ![0, 0, 0] S1x8x128.size inb).toLoadRect hl) k) Q := by
  unfold Tri aPts
  iintro ⟨HA, HB, Ha, HR⟩
  iapply (wp_load_rect 𝒱₀ (c : Thread nD τ) none Set.univ (m := aM) (r := Rect.unit (s := S16x8x128) ![0, 0, 0] S1x8x128.size inb) (f := f)
    (slot0_set inb).subset) $$ [Ha]
  · iexact Ha
  iintro Ha
  iapply (show _ ⊢ _ from h _)
  unfold aPts
  isplitl [HA]; · iexact HA
  isplitl [HB]; · iexact HB
  isplitl [Ha]; · iexact Ha
  iexact HR

/-- The device's own maximum, stored, is what belongs in slot 0. -/
theorem stored_a (f : (cc0_scratch1 : Ref sig .tc).ty.Contents (Elt F)) (inb) (i : S16x8x128.Idx) (hi : i ∈ (aSlot 0).view.set) :
    (aM.access (Rect.unit (s := S16x8x128) ![0, 0, 0] S1x8x128.size inb)).write (Elt F) f (k0_pay8 (acc₃ m c)) Finset.univ i = AM m c i := by
  rw [← slot0_set inb] at hi
  obtain ⟨x, -, rfl⟩ := Finset.mem_map.mp hi
  rw [View.write_emb_of_mem _ _ (Finset.mem_univ _)]
  refine (cast_eq _ _).trans ?_
  have hv (a : Fin 3) := ValueKit.view_emb_slice_whole_unit_val cc0_scratch1 _ _ inb x a
  have z : (x (0 : Fin 3)).val < 1 := (x (0 : Fin 3)).isLt
  have e0 : ((aM.access (Rect.unit (s := S16x8x128) ![0, 0, 0] S1x8x128.size inb)).emb x (0 : Fin 3)) = (0 : Fin 16) :=
    Fin.ext ((hv 0).trans (by show 0 + _ = 0; omega))
  have e : x = slotIdx ((aM.access (Rect.unit (s := S16x8x128) ![0, 0, 0] S1x8x128.size inb)).emb x (1 : Fin 3))
      ((aM.access (Rect.unit (s := S16x8x128) ![0, 0, 0] S1x8x128.size inb)).emb x (2 : Fin 3)) := by
    funext a
    match a with
    | 0 => exact Fin.ext (by show _ = 0; omega)
    | 1 => exact Fin.ext (((hv 1).trans (Nat.zero_add _)).symm)
    | 2 => exact Fin.ext (((hv 2).trans (Nat.zero_add _)).symm)
  unfold AM
  rw [← e, e0, before_zero c]

theorem store_a0 {A B R : sProp 𝕄} {Q : α → sProp 𝕄} {f} {inb} {hx hm} {k : PUnit → Prog (TpuEff nD τ sig (Elt F) Λ₀ .tc) α}
    (h : Tri c iprop(A ∗ (B ∗ (aPts c 0 fullShare (AM m c) ∗ R))) (k ⟨⟩) Q) :
    Tri c iprop(A ∗ (B ∗ (aPts c 0 fullShare f ∗ R))) (.op (.store aM (Rect.unit (s := S16x8x128) ![0, 0, 0] S1x8x128.size inb) (k0_pay8 (acc₃ m c)) Finset.univ hx hm) k) Q := by
  unfold Tri aPts
  iintro ⟨HA, HB, Ha, HR⟩
  iapply (wp_store 𝒱₀ (c : Thread nD τ) none Set.univ (m := aM) (r := Rect.unit (s := S16x8x128) ![0, 0, 0] S1x8x128.size inb) (w := k0_pay8 (acc₃ m c)) (Mk := Finset.univ)
    (f := f) (slot0_set inb).subset) $$ [Ha]
  · iexact Ha
  iintro Ha
  iapply (show _ ⊢ _ from h)
  unfold aPts
  isplitl [HA]; · iexact HA
  isplitl [HB]; · iexact HB
  isplitl [Ha]
  · iapply (Entails.of_eq (pointsTo_congr fun i hi => stored_a m c f inb i hi))
    iexact Ha
  iexact HR

theorem load_a {A B R : sProp 𝕄} {Q : α → sProp 𝕄} {inb} {hl} {k : (S16x8x128.Idx → Elt F .f32) → Prog (TpuEff nD τ sig (Elt F) Λ₀ .tc) α}
    (h : Tri c iprop(A ∗ (B ∗ (aAll m c ∗ R))) (k (AM m c)) Q) :
    Tri c iprop(A ∗ (B ∗ (aAll m c ∗ R))) (.op (.load aM (Rect.unit (s := S16x8x128) ![0, 0, 0] S16x8x128.size inb).toLoadRect hl) k) Q := by
  unfold Tri aAll
  iintro ⟨HA, HB, Ha, HR⟩
  iapply (wp_load 𝒱₀ (c : Thread nD τ) none Set.univ (m := aM) (r := (Rect.unit (s := S16x8x128) ![0, 0, 0] S16x8x128.size inb).toLoadRect) (f := AM m c) (Finset.subset_univ _)) $$ [Ha]
  · iexact Ha
  iintro Ha
  rw [show aM.view.readAt (Elt F) (Rect.unit (s := S16x8x128) ![0, 0, 0] S16x8x128.size inb).toLoadRect (AM m c) = AM m c from
    Memref.readAt_unit_zero (Elt F) cc0_scratch1 zeros₃ inb _]
  iapply (show _ ⊢ _ from h)
  unfold aAll
  isplitl [HA]; · iexact HA
  isplitl [HB]; · iexact HB
  isplitl [Ha]; · iexact Ha
  iexact HR

end Cert.Proof.Dist
-- ==== Proof.PartsB.lean ====
/-
# The body's parts 17 to 24: the blocks come, the products, the sends' ends, the device's own maximum
-/
module

public import proofs.«01_k».proof.Proof.Memory

@[expose] public section

noncomputable section

namespace Cert.Proof.Dist

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom finUpTo mem_finFrom mem_finUpTo bigSep_finFrom_succ bigSep_finUpTo_succ add_sum_finFrom_succ
  bigSep_finFrom_self bigSep_finUpTo_zero finFrom_self)

variable {F : FTy → Type} [FloatOps F]

local notation "𝕄" => MT nD τ sig Unit (Elt F) ℕ UU ℕ

variable (m : (ℓ : Loc nD τ sig) → Buf (Elt F) ℓ) (K : Dev nD × Key → ℕ)

variable {α : Type} (c : Dev nD)

/-! ## The four kinds of wait -/

theorem credit_recv (o : Fin 2 → ℕ) (h) : (gM.slice (Rect.unit (s := S256x4096) o S256x256.size h) (fun _ => rfl)).view.dmaCredit = xAmt 1 :=
  Eq.trans (b := N₁) rfl (if_pos (by decide)).symm
theorem credit_sent (o : Fin 2 → ℕ) (h) : (xM.slice (Rect.unit (s := S4096x256) o S256x256.size h) (fun _ => rfl)).view.dmaCredit = xAmt 0 :=
  Eq.trans (b := N₁) rfl (if_pos (by decide)).symm
theorem credit_amRecv (o : Fin 3 → ℕ) (h) :
    ((aM.slice (Rect.unit (s := S16x8x128) o S1x8x128.size h) (fun _ => rfl)).squeeze S8x128 squeezes_S1x8x128_S8x128).view.dmaCredit = xAmt 3 := rfl
theorem credit_amSent (o : Fin 3 → ℕ) (h) :
    ((aM.slice (Rect.unit (s := S16x8x128) o S1x8x128.size h) (fun _ => rfl)).squeeze S8x128 squeezes_S1x8x128_S8x128).view.dmaCredit = xAmt 2 := rfl

/-- A wait for the block that one device sends, -/
theorem recv_at {R : sProp 𝕄} {Q : α → sProp 𝕄} (i : ℕ) (hi : i < 16) {hs} {o : Fin 2 → ℕ} {i₂} {src : Memref sig .tc .vmem S256x256 .f32} {hsrc hdst}
    {k : PUnit → Prog (TpuEff nD τ sig (Elt F) Λ₀ .tc) α} (h : Tri c iprop(PhW m K c 1 (owedA c 1) (i + 1) ∗ R) (k ⟨⟩) Q) :
    Tri c iprop(PhW m K c 1 (owedA c 1) i ∗ R)
      (.op (.waitDma2 ((cc0_scratch3.slice (Rect.unit (s := S16) ![i] S1.size hs)).squeeze S_ squeezes_S1_S_).sem src (gM.slice (Rect.unit (s := S256x4096) o S256x256.size i₂) (fun _ => rfl)) hsrc hdst) k) Q :=
  wait_step m K c 1 i hi (Or.inl (by decide)) (above_owedA (by show (2:ℕ) < 3; decide) c 1) (sem_arg6' i hi rfl hs) (credit_recv _ _) h
/-- a wait for one's own block to have left, -/
theorem sent_at {R : sProp 𝕄} {Q : α → sProp 𝕄} (i : ℕ) (hi : i < 16) {hs} {o : Fin 2 → ℕ} {i₂} {src : Memref sig .tc .vmem S256x256 .f32} {hsrc hdst}
    {k : PUnit → Prog (TpuEff nD τ sig (Elt F) Λ₀ .tc) α} (h : Tri c iprop(PhW m K c 0 (owedA c 1) (i + 1) ∗ R) (k ⟨⟩) Q) :
    Tri c iprop(PhW m K c 0 (owedA c 1) i ∗ R)
      (.op (.waitDma2 ((cc0_scratch2.slice (Rect.unit (s := S16) ![i] S1.size hs)).squeeze S_ squeezes_S1_S_).sem src (xM.slice (Rect.unit (s := S4096x256) o S256x256.size i₂) (fun _ => rfl)) hsrc hdst) k) Q :=
  wait_step m K c 0 i hi (Or.inl (by decide)) (above_owedA (by show (0:ℕ) < 3; decide) c 1) (sem_arg5' i hi rfl hs) (credit_sent _ _) h
/-- a wait for the maximum that one device sends, -/
theorem amRecv_at {R : sProp 𝕄} {Q : α → sProp 𝕄} (i : ℕ) (h1 : 1 ≤ i) (hi : i < 16) {hs} {o : Fin 3 → ℕ} {i₂} {src : Memref sig .tc .vmem S8x128 .f32} {hsrc hdst}
    {k : PUnit → Prog (TpuEff nD τ sig (Elt F) Λ₀ .tc) α} (h : Tri c iprop(PhW m K c 3 0 (i + 1) ∗ R) (k ⟨⟩) Q) :
    Tri c iprop(PhW m K c 3 0 i ∗ R)
      (.op (.waitDma2 ((cc0_scratch5.slice (Rect.unit (s := S16) ![i] S1.size hs)).squeeze S_ squeezes_S1_S_).sem src ((aM.slice (Rect.unit (s := S16x8x128) o S1x8x128.size i₂) (fun _ => rfl)).squeeze S8x128 squeezes_S1x8x128_S8x128) hsrc hdst) k) Q :=
  wait_step m K c 3 i hi (Or.inr h1) (Above.zero _) (sem_arg8' i hi rfl hs) (credit_amRecv _ _) h
/-- and a wait for one's own maximum to have left. -/
theorem amSent_at {R : sProp 𝕄} {Q : α → sProp 𝕄} (i : ℕ) (h1 : 1 ≤ i) (hi : i < 16) {hs} {o : Fin 3 → ℕ} {i₂} {src : Memref sig .tc .vmem S8x128 .f32} {hsrc hdst}
    {k : PUnit → Prog (TpuEff nD τ sig (Elt F) Λ₀ .tc) α} (h : Tri c iprop(PhW m K c 2 0 (i + 1) ∗ R) (k ⟨⟩) Q) :
    Tri c iprop(PhW m K c 2 0 i ∗ R)
      (.op (.waitDma2 ((cc0_scratch4.slice (Rect.unit (s := S16) ![i] S1.size hs)).squeeze S_ squeezes_S1_S_).sem src ((aM.slice (Rect.unit (s := S16x8x128) o S1x8x128.size i₂) (fun _ => rfl)).squeeze S8x128 squeezes_S1x8x128_S8x128) hsrc hdst) k) Q :=
  wait_step m K c 2 i hi (Or.inr h1) (Above.zero _) (sem_arg7' i hi rfl hs) (credit_amSent _ _) h

/-- One array of semaphores is waited through: on to the next. -/
theorem PhW_switch {X R : sProp 𝕄} {Q : α → sProp 𝕄} {P} (j j' : Fin 4) (O : CellTallies nD τ sig Unit) (i : ℕ)
    (he : iprop(emp) ⊢ bigSep (finUpTo 16 i) (waitDone m c j'))
    (h : Tri c iprop(PhW m K c j' O i ∗ (X ∗ (bigSep (finUpTo 16 16) (waitDone m c j) ∗ R))) P Q) :
    Tri c iprop(PhW m K c j O 16 ∗ (X ∗ (bigSep (finFrom 16 i) (waitRes c j') ∗ R))) P Q := by
  refine Tri.pre ?_ h
  unfold PhW
  iintro ⟨⟨HE, HO, HS, HD⟩, HX, HN, HR⟩
  isplitl [HE HO HN]
  · isplitl [HE]; · iexact HE
    isplitl [HO]; · iexact HO
    isplitl [HN]; · iexact HN
    iapply he
    iempintro
  isplitl [HX]; · iexact HX
  isplitl [HD]; · iexact HD
  iexact HR

theorem waitDone_zero (j : Fin 4) : iprop(emp) ⊢ bigSep (finUpTo 16 0) (waitDone m c j) :=
  Entails.of_eq (bigSep_finUpTo_zero (waitDone m c j)).symm

variable {hx : xM.IsWhole} {hw : wM.IsWhole} {ho : oM.IsWhole} {hg : gM.IsWhole} {ha : aM.IsWhole}

/-! ## The parts -/

/-- The first four blocks have come: the first product. -/
theorem part17 {R : sProp 𝕄} {Q : α → sProp 𝕄} {k} {f} (h : Tri c iprop(PhW m K c 1 (owedA c 1) 4 ∗ (Wo m c f ∗ R)) (k (acc₀ m c)) Q) :
    Tri c iprop(PhW m K c 1 (owedA c 1) 0 ∗ (Wo m c f ∗ R)) (k0_part17 xM hx wM hw oM ho gM hg aM ha cc0_scratch2 cc0_scratch3 cc0_scratch4 cc0_scratch5 >>= k) Q := by
  rw [k0_part17_eq_skeleton]; unfold k0_part17_skel
  simp only [Prog.lift, Prog.bind_op, Prog.bind_ret, Prog.pure_eq_ret]
  refine recv_at m K c 0 (by decide) ?_
  refine recv_at m K c 1 (by decide) ?_
  refine recv_at m K c 2 (by decide) ?_
  refine recv_at m K c 3 (by decide) ?_
  refine load_g m K c 0 4 (by decide) (by decide) rfl ?_
  refine load_w m c ?_
  exact h

theorem part18 {R : sProp 𝕄} {Q : α → sProp 𝕄} {k} {f} (h : ∀ r, Tri c iprop(PhW m K c 1 (owedA c 1) 7 ∗ (Wo m c (acc₀ m c) ∗ R)) (k r) Q) :
    Tri c iprop(PhW m K c 1 (owedA c 1) 4 ∗ (Wo m c f ∗ R)) (k0_part18 xM hx wM hw oM ho gM hg aM ha cc0_scratch2 cc0_scratch3 cc0_scratch4 cc0_scratch5 (acc₀ m c) >>= k) Q := by
  rw [k0_part18_eq_skeleton]; unfold k0_part18_skel
  simp only [Prog.lift, Prog.bind_op, Prog.bind_ret, Prog.pure_eq_ret]
  refine load_o m c ?_
  refine store_o m c ?_
  refine recv_at m K c 4 (by decide) ?_
  refine recv_at m K c 5 (by decide) ?_
  refine recv_at m K c 6 (by decide) ?_
  exact h _

theorem part19 {R : sProp 𝕄} {Q : α → sProp 𝕄} {k} (h : ∀ r, Tri c iprop(PhW m K c 1 (owedA c 1) 10 ∗ (Wo m c (acc₁ m c) ∗ R)) (k r) Q) :
    Tri c iprop(PhW m K c 1 (owedA c 1) 7 ∗ (Wo m c (acc₀ m c) ∗ R)) (k0_part19 xM hx wM hw oM ho gM hg aM ha cc0_scratch2 cc0_scratch3 cc0_scratch4 cc0_scratch5 >>= k) Q := by
  rw [k0_part19_eq_skeleton]; unfold k0_part19_skel
  simp only [Prog.lift, Prog.bind_op, Prog.bind_ret, Prog.pure_eq_ret]
  refine recv_at m K c 7 (by decide) ?_
  refine load_g m K c 1 8 (by decide) (by decide) rfl ?_
  refine load_w m c ?_
  refine load_o m c ?_
  refine load_o m c ?_
  refine store_o m c ?_
  refine recv_at m K c 8 (by decide) ?_
  refine recv_at m K c 9 (by decide) ?_
  exact h _

theorem part20 {R : sProp 𝕄} {Q : α → sProp 𝕄} {k} {v₁} (h : ∀ r, Tri c iprop(PhW m K c 1 (owedA c 1) 12 ∗ (Wo m c (acc₂ m c) ∗ R)) (k r) Q) :
    Tri c iprop(PhW m K c 1 (owedA c 1) 10 ∗ (Wo m c (acc₁ m c) ∗ R)) (k0_part20 xM hx wM hw oM ho gM hg aM ha cc0_scratch2 cc0_scratch3 cc0_scratch4 cc0_scratch5 v₁ >>= k) Q := by
  rw [k0_part20_eq_skeleton]; unfold k0_part20_skel
  simp only [Prog.lift, Prog.bind_op, Prog.bind_ret, Prog.pure_eq_ret]
  refine recv_at m K c 10 (by decide) ?_
  refine recv_at m K c 11 (by decide) ?_
  refine load_g m K c 2 12 (by decide) (by decide) rfl ?_
  refine load_w m c ?_
  refine load_o m c ?_
  refine load_o m c ?_
  refine store_o m c ?_
  exact h _

theorem part21 {R : sProp 𝕄} {Q : α → sProp 𝕄} {k} {f} (h : Tri c iprop(PhW m K c 1 (owedA c 1) 16 ∗ (Wo m c f ∗ R)) (k (k0_pay5 (gM.view.readAt (Elt F) gR₃.toLoadRect (XG m c)) (wM.view.readAt (Elt F) wR₃.toLoadRect (wstg m c)))) Q) :
    Tri c iprop(PhW m K c 1 (owedA c 1) 12 ∗ (Wo m c f ∗ R)) (k0_part21 xM hx wM hw oM ho gM hg aM ha cc0_scratch2 cc0_scratch3 cc0_scratch4 cc0_scratch5 >>= k) Q := by
  rw [k0_part21_eq_skeleton]; unfold k0_part21_skel
  simp only [Prog.lift, Prog.bind_op, Prog.bind_ret, Prog.pure_eq_ret]
  refine recv_at m K c 12 (by decide) ?_
  refine recv_at m K c 13 (by decide) ?_
  refine recv_at m K c 14 (by decide) ?_
  refine recv_at m K c 15 (by decide) ?_
  refine load_g m K c 3 16 (by decide) (by decide) rfl ?_
  refine load_w m c ?_
  exact h

theorem part22 {R : sProp 𝕄} {Q : α → sProp 𝕄} {k} (h : ∀ r, Tri c iprop(PhW m K c 0 (owedA c 1) 5 ∗ (Wo m c (acc₃ m c) ∗ (bigSep (finUpTo 16 16) (waitDone m c 1) ∗ R))) (k r) Q) :
    Tri c iprop(PhW m K c 1 (owedA c 1) 16 ∗ (Wo m c (acc₂ m c) ∗ (bigSep (finFrom 16 0) (waitRes c 0) ∗ R))) (k0_part22 xM hx wM hw oM ho gM hg aM ha cc0_scratch2 cc0_scratch3 cc0_scratch4 cc0_scratch5 c (k0_pay5 (gM.view.readAt (Elt F) gR₃.toLoadRect (XG m c)) (wM.view.readAt (Elt F) wR₃.toLoadRect (wstg m c))) >>= k) Q := by
  rw [k0_part22_eq_skeleton]; unfold k0_part22_skel
  simp only [Prog.lift, Prog.bind_op, Prog.bind_ret, Prog.pure_eq_ret]
  refine load_o m c ?_
  refine load_o m c ?_
  refine store_o m c ?_
  refine PhW_switch m K c 1 0 (owedA c 1) 0 (waitDone_zero m c 0) ?_
  refine sent_at m K c 0 (by decide) ?_
  refine sent_at m K c 1 (by decide) ?_
  refine sent_at m K c 2 (by decide) ?_
  refine sent_at m K c 3 (by decide) ?_
  refine sent_at m K c 4 (by decide) ?_
  exact h _

theorem part23 {R : sProp 𝕄} {Q : α → sProp 𝕄} {k} (h : ∀ r, Tri c iprop(PhW m K c 0 (owedA c 1) 12 ∗ R) (k r) Q) :
    Tri c iprop(PhW m K c 0 (owedA c 1) 5 ∗ R) (k0_part23 xM hx wM hw oM ho gM hg aM ha cc0_scratch2 cc0_scratch3 cc0_scratch4 cc0_scratch5 c >>= k) Q := by
  rw [k0_part23_eq_skeleton]; unfold k0_part23_skel
  simp only [Prog.lift, Prog.bind_op, Prog.bind_ret, Prog.pure_eq_ret]
  refine sent_at m K c 5 (by decide) ?_
  refine sent_at m K c 6 (by decide) ?_
  refine sent_at m K c 7 (by decide) ?_
  refine sent_at m K c 8 (by decide) ?_
  refine sent_at m K c 9 (by decide) ?_
  refine sent_at m K c 10 (by decide) ?_
  refine sent_at m K c 11 (by decide) ?_
  exact h _

theorem part24 {R : sProp 𝕄} {Q : α → sProp 𝕄} {k} {v₁} {f} (h : ∀ r, Tri c iprop(PhW m K c 0 (owedA c 1) 16 ∗ (Wo m c (k0_pay7 (acc₃ m c)) ∗ (aPts c 0 fullShare (AM m c) ∗ R))) (k r) Q) :
    Tri c iprop(PhW m K c 0 (owedA c 1) 12 ∗ (Wo m c (acc₃ m c) ∗ (aPts c 0 fullShare f ∗ R))) (k0_part24 xM hx wM hw oM ho gM hg aM ha cc0_scratch2 cc0_scratch3 cc0_scratch4 cc0_scratch5 c v₁ >>= k) Q := by
  rw [k0_part24_eq_skeleton]; unfold k0_part24_skel
  simp only [Prog.lift, Prog.bind_op, Prog.bind_ret, Prog.pure_eq_ret]
  refine sent_at m K c 12 (by decide) ?_
  refine sent_at m K c 13 (by decide) ?_
  refine sent_at m K c 14 (by decide) ?_
  refine sent_at m K c 15 (by decide) ?_
  refine load_o m c ?_
  refine load_o m c ?_
  refine store_o m c ?_
  refine load_a0 c fun _ => ?_
  refine store_a0 m c ?_
  exact h _

end Cert.Proof.Dist
-- ==== Proof.PartsC.lean ====
/-
# The body's parts 25 to 42: the maxima are exchanged
-/
module

public import proofs.«01_k».proof.Proof.PartsB

@[expose] public section

noncomputable section

namespace Cert.Proof.Dist

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom finUpTo mem_finFrom mem_finUpTo bigSep_finFrom_succ bigSep_finUpTo_succ add_sum_finFrom_succ
  bigSep_finFrom_self bigSep_finUpTo_zero finFrom_self)

variable {F : FTy → Type} [FloatOps F]

local notation "𝕄" => MT nD τ sig Unit (Elt F) ℕ UU ℕ

variable (m : (ℓ : Loc nD τ sig) → Buf (Elt F) ℓ) (K : Dev nD × Key → ℕ)

variable {α : Type} (c : Dev nD)

/-- `amax_step` as the program writes it. -/
theorem amax_at {R : sProp 𝕄} {Q : α → sProp 𝕄} (n : Dev nD) (d : ℕ) (h1 : 1 ≤ d) (hd : d < 16) (hn : n.val = (c.val + d) % 16)
    {i₀ i hs hr hsc hsrc hdst hsem} {k : PUnit → Prog (TpuEff nD τ sig (Elt F) Λ₀ .tc) α}
    (h : Tri c iprop(Ph5 m K c (d + 1) ∗ R) (k ⟨⟩) Q) :
    Tri c iprop(Ph5 m K c d ∗ R) (.op (.enqueueDma ((aM.slice (Rect.unit (s := S16x8x128) ![0, 0, 0] S1x8x128.size i₀) (fun _ => rfl)).squeeze S8x128 squeezes_S1x8x128_S8x128)
      (.remote (Dev.tc n : Thread nD τ) ((aM.slice (Rect.unit (s := S16x8x128) ![d, 0, 0] S1x8x128.size i) (fun _ => rfl)).squeeze S8x128 squeezes_S1x8x128_S8x128)
        (.dma ((cc0_scratch4.slice (Rect.unit (s := S16) ![d] S1.size hs)).squeeze S_ squeezes_S1_S_).sem) hsc)
      (.dma ((cc0_scratch5.slice (Rect.unit (s := S16) ![d] S1.size hr)).squeeze S_ squeezes_S1_S_).sem) hsrc hdst hsem) k) Q :=
  amax_step m K c n d h1 hd hn rfl (sem_arg7' d hd rfl hs) (sem_arg8' d hd rfl hr) h

variable {hx : xM.IsWhole} {hw : wM.IsWhole} {ho : oM.IsWhole} {hg : gM.IsWhole} {ha : aM.IsWhole}

/-! ## The maximum goes out -/

theorem part25 {R : sProp 𝕄} {Q : α → sProp 𝕄} {k} {v₁ v₂ v₃} (h : ∀ r, Tri c iprop(Ph5 m K c 2 ∗ R) (k r) Q) :
    Tri c iprop(Ph5 m K c 1 ∗ R) (k0_part25 xM hx wM hw oM ho gM hg aM ha cc0_scratch2 cc0_scratch3 cc0_scratch4 cc0_scratch5 c v₁ v₂ v₃ >>= k) Q := by
  rw [k0_part25_eq_skeleton]; unfold k0_part25_skel
  simp only [Prog.lift, Prog.bind_op, Prog.bind_ret, Prog.pure_eq_ret]
  refine amax_at m K c _ 1 (by decide) (by decide) (congrFun (dev_amax c) 0) ?_
  exact h _

theorem part26 {R : sProp 𝕄} {Q : α → sProp 𝕄} {k} {v₁ v₂} (h : ∀ r, Tri c iprop(Ph5 m K c 4 ∗ R) (k r) Q) :
    Tri c iprop(Ph5 m K c 2 ∗ R) (k0_part26 xM hx wM hw oM ho gM hg aM ha cc0_scratch2 cc0_scratch3 cc0_scratch4 cc0_scratch5 c v₁ v₂ >>= k) Q := by
  rw [k0_part26_eq_skeleton]; unfold k0_part26_skel
  simp only [Prog.lift, Prog.bind_op, Prog.bind_ret, Prog.pure_eq_ret]
  refine amax_at m K c _ 2 (by decide) (by decide) (congrFun (dev_amax c) 1) ?_
  refine amax_at m K c _ 3 (by decide) (by decide) (congrFun (dev_amax c) 2) ?_
  exact h _

theorem part27 {R : sProp 𝕄} {Q : α → sProp 𝕄} {k} {v₁ v₂ v₃ v₄ v₅} (h : ∀ r, Tri c iprop(Ph5 m K c 5 ∗ R) (k r) Q) :
    Tri c iprop(Ph5 m K c 4 ∗ R) (k0_part27 xM hx wM hw oM ho gM hg aM ha cc0_scratch2 cc0_scratch3 cc0_scratch4 cc0_scratch5 c v₁ v₂ v₃ v₄ v₅ >>= k) Q := by
  rw [k0_part27_eq_skeleton]; unfold k0_part27_skel
  simp only [Prog.lift, Prog.bind_op, Prog.bind_ret, Prog.pure_eq_ret]
  refine amax_at m K c _ 4 (by decide) (by decide) (congrFun (dev_amax c) 3) ?_
  exact h _

theorem part28 {R : sProp 𝕄} {Q : α → sProp 𝕄} {k} {v₁} (h : ∀ r, Tri c iprop(Ph5 m K c 7 ∗ R) (k r) Q) :
    Tri c iprop(Ph5 m K c 5 ∗ R) (k0_part28 xM hx wM hw oM ho gM hg aM ha cc0_scratch2 cc0_scratch3 cc0_scratch4 cc0_scratch5 c v₁ >>= k) Q := by
  rw [k0_part28_eq_skeleton]; unfold k0_part28_skel
  simp only [Prog.lift, Prog.bind_op, Prog.bind_ret, Prog.pure_eq_ret]
  refine amax_at m K c _ 5 (by decide) (by decide) (congrFun (dev_amax c) 4) ?_
  refine amax_at m K c _ 6 (by decide) (by decide) (congrFun (dev_amax c) 5) ?_
  exact h _

theorem part29 {R : sProp 𝕄} {Q : α → sProp 𝕄} {k} {v₁ v₂ v₃ v₄} (h : ∀ r, Tri c iprop(Ph5 m K c 8 ∗ R) (k r) Q) :
    Tri c iprop(Ph5 m K c 7 ∗ R) (k0_part29 xM hx wM hw oM ho gM hg aM ha cc0_scratch2 cc0_scratch3 cc0_scratch4 cc0_scratch5 c v₁ v₂ v₃ v₄ >>= k) Q := by
  rw [k0_part29_eq_skeleton]; unfold k0_part29_skel
  simp only [Prog.lift, Prog.bind_op, Prog.bind_ret, Prog.pure_eq_ret]
  refine amax_at m K c _ 7 (by decide) (by decide) (congrFun (dev_amax c) 6) ?_
  exact h _

theorem part30 {R : sProp 𝕄} {Q : α → sProp 𝕄} {k} {v₁} (h : ∀ r, Tri c iprop(Ph5 m K c 10 ∗ R) (k r) Q) :
    Tri c iprop(Ph5 m K c 8 ∗ R) (k0_part30 xM hx wM hw oM ho gM hg aM ha cc0_scratch2 cc0_scratch3 cc0_scratch4 cc0_scratch5 c v₁ >>= k) Q := by
  rw [k0_part30_eq_skeleton]; unfold k0_part30_skel
  simp only [Prog.lift, Prog.bind_op, Prog.bind_ret, Prog.pure_eq_ret]
  refine amax_at m K c _ 8 (by decide) (by decide) (congrFun (dev_amax c) 7) ?_
  refine amax_at m K c _ 9 (by decide) (by decide) (congrFun (dev_amax c) 8) ?_
  exact h _

theorem part31 {R : sProp 𝕄} {Q : α → sProp 𝕄} {k} {v₁ v₂ v₃ v₄ v₅} (h : ∀ r, Tri c iprop(Ph5 m K c 11 ∗ R) (k r) Q) :
    Tri c iprop(Ph5 m K c 10 ∗ R) (k0_part31 xM hx wM hw oM ho gM hg aM ha cc0_scratch2 cc0_scratch3 cc0_scratch4 cc0_scratch5 c v₁ v₂ v₃ v₄ v₅ >>= k) Q := by
  rw [k0_part31_eq_skeleton]; unfold k0_part31_skel
  simp only [Prog.lift, Prog.bind_op, Prog.bind_ret, Prog.pure_eq_ret]
  refine amax_at m K c _ 10 (by decide) (by decide) (congrFun (dev_amax c) 9) ?_
  exact h _

theorem part32 {R : sProp 𝕄} {Q : α → sProp 𝕄} {k} {v₁} (h : ∀ r, Tri c iprop(Ph5 m K c 13 ∗ R) (k r) Q) :
    Tri c iprop(Ph5 m K c 11 ∗ R) (k0_part32 xM hx wM hw oM ho gM hg aM ha cc0_scratch2 cc0_scratch3 cc0_scratch4 cc0_scratch5 c v₁ >>= k) Q := by
  rw [k0_part32_eq_skeleton]; unfold k0_part32_skel
  simp only [Prog.lift, Prog.bind_op, Prog.bind_ret, Prog.pure_eq_ret]
  refine amax_at m K c _ 11 (by decide) (by decide) (congrFun (dev_amax c) 10) ?_
  refine amax_at m K c _ 12 (by decide) (by decide) (congrFun (dev_amax c) 11) ?_
  exact h _

theorem part33 {R : sProp 𝕄} {Q : α → sProp 𝕄} {k} {v₁ v₂ v₃ v₄ v₅} (h : ∀ r, Tri c iprop(Ph5 m K c 14 ∗ R) (k r) Q) :
    Tri c iprop(Ph5 m K c 13 ∗ R) (k0_part33 xM hx wM hw oM ho gM hg aM ha cc0_scratch2 cc0_scratch3 cc0_scratch4 cc0_scratch5 c v₁ v₂ v₃ v₄ v₅ >>= k) Q := by
  rw [k0_part33_eq_skeleton]; unfold k0_part33_skel
  simp only [Prog.lift, Prog.bind_op, Prog.bind_ret, Prog.pure_eq_ret]
  refine amax_at m K c _ 13 (by decide) (by decide) (congrFun (dev_amax c) 12) ?_
  exact h _

theorem part34 {R : sProp 𝕄} {Q : α → sProp 𝕄} {k} {v₁ v₂} (h : ∀ r, Tri c iprop(Ph5 m K c 16 ∗ R) (k r) Q) :
    Tri c iprop(Ph5 m K c 14 ∗ R) (k0_part34 xM hx wM hw oM ho gM hg aM ha cc0_scratch2 cc0_scratch3 cc0_scratch4 cc0_scratch5 c v₁ v₂ >>= k) Q := by
  rw [k0_part34_eq_skeleton]; unfold k0_part34_skel
  simp only [Prog.lift, Prog.bind_op, Prog.bind_ret, Prog.pure_eq_ret]
  refine amax_at m K c _ 14 (by decide) (by decide) (congrFun (dev_amax c) 13) ?_
  refine amax_at m K c _ 15 (by decide) (by decide) (congrFun (dev_amax c) 14) ?_
  exact h _

/-! ## The maxima come in, and the sends end -/

/-- The first semaphore of the two arrays of the maxima is never waited for. -/
theorem waitDone_one (j : Fin 4) (hj : 2 ≤ j.val) : iprop(emp) ⊢ bigSep (finUpTo 16 1) (waitDone m c j) := by
  rw [show finUpTo 16 1 = {0} by decide, bigSep_singleton]
  exact Entails.of_eq (if_neg (by rintro (h | h); · omega
                                  exact h rfl)).symm

theorem part35 {R : sProp 𝕄} {Q : α → sProp 𝕄} {k} {v₁ v₂ v₃} (h : ∀ r, Tri c iprop(PhW m K c 3 0 5 ∗ R) (k r) Q) :
    Tri c iprop(PhW m K c 3 0 1 ∗ R) (k0_part35 xM hx wM hw oM ho gM hg aM ha cc0_scratch2 cc0_scratch3 cc0_scratch4 cc0_scratch5 v₁ v₂ v₃ >>= k) Q := by
  rw [k0_part35_eq_skeleton]; unfold k0_part35_skel
  simp only [Prog.lift, Prog.bind_op, Prog.bind_ret, Prog.pure_eq_ret]
  refine amRecv_at m K c 1 (by decide) (by decide) ?_
  refine amRecv_at m K c 2 (by decide) (by decide) ?_
  refine amRecv_at m K c 3 (by decide) (by decide) ?_
  refine amRecv_at m K c 4 (by decide) (by decide) ?_
  exact h _

theorem part36 {R : sProp 𝕄} {Q : α → sProp 𝕄} {k} {v₁ v₂ v₃} (h : ∀ r, Tri c iprop(PhW m K c 3 0 8 ∗ R) (k r) Q) :
    Tri c iprop(PhW m K c 3 0 5 ∗ R) (k0_part36 xM hx wM hw oM ho gM hg aM ha cc0_scratch2 cc0_scratch3 cc0_scratch4 cc0_scratch5 v₁ v₂ v₃ >>= k) Q := by
  rw [k0_part36_eq_skeleton]; unfold k0_part36_skel
  simp only [Prog.lift, Prog.bind_op, Prog.bind_ret, Prog.pure_eq_ret]
  refine amRecv_at m K c 5 (by decide) (by decide) ?_
  refine amRecv_at m K c 6 (by decide) (by decide) ?_
  refine amRecv_at m K c 7 (by decide) (by decide) ?_
  exact h _

theorem part37 {R : sProp 𝕄} {Q : α → sProp 𝕄} {k} {v₁ v₂ v₃ v₄ v₅} (h : ∀ r, Tri c iprop(PhW m K c 3 0 11 ∗ R) (k r) Q) :
    Tri c iprop(PhW m K c 3 0 8 ∗ R) (k0_part37 xM hx wM hw oM ho gM hg aM ha cc0_scratch2 cc0_scratch3 cc0_scratch4 cc0_scratch5 v₁ v₂ v₃ v₄ v₅ >>= k) Q := by
  rw [k0_part37_eq_skeleton]; unfold k0_part37_skel
  simp only [Prog.lift, Prog.bind_op, Prog.bind_ret, Prog.pure_eq_ret]
  refine amRecv_at m K c 8 (by decide) (by decide) ?_
  refine amRecv_at m K c 9 (by decide) (by decide) ?_
  refine amRecv_at m K c 10 (by decide) (by decide) ?_
  exact h _

theorem part38 {R : sProp 𝕄} {Q : α → sProp 𝕄} {k} {v₁ v₂ v₃} (h : ∀ r, Tri c iprop(PhW m K c 3 0 14 ∗ R) (k r) Q) :
    Tri c iprop(PhW m K c 3 0 11 ∗ R) (k0_part38 xM hx wM hw oM ho gM hg aM ha cc0_scratch2 cc0_scratch3 cc0_scratch4 cc0_scratch5 v₁ v₂ v₃ >>= k) Q := by
  rw [k0_part38_eq_skeleton]; unfold k0_part38_skel
  simp only [Prog.lift, Prog.bind_op, Prog.bind_ret, Prog.pure_eq_ret]
  refine amRecv_at m K c 11 (by decide) (by decide) ?_
  refine amRecv_at m K c 12 (by decide) (by decide) ?_
  refine amRecv_at m K c 13 (by decide) (by decide) ?_
  exact h _

theorem part39 {R : sProp 𝕄} {Q : α → sProp 𝕄} {k} {X : sProp 𝕄} {v₁} (h : ∀ r, Tri c iprop(PhW m K c 2 0 3 ∗ (X ∗ (bigSep (finUpTo 16 16) (waitDone m c 3) ∗ R))) (k r) Q) :
    Tri c iprop(PhW m K c 3 0 14 ∗ (X ∗ (bigSep (finFrom 16 1) (waitRes c 2) ∗ R))) (k0_part39 xM hx wM hw oM ho gM hg aM ha cc0_scratch2 cc0_scratch3 cc0_scratch4 cc0_scratch5 v₁ >>= k) Q := by
  rw [k0_part39_eq_skeleton]; unfold k0_part39_skel
  simp only [Prog.lift, Prog.bind_op, Prog.bind_ret, Prog.pure_eq_ret]
  refine amRecv_at m K c 14 (by decide) (by decide) ?_
  refine amRecv_at m K c 15 (by decide) (by decide) ?_
  refine PhW_switch m K c 3 2 0 1 (waitDone_one m c 2 (by decide)) ?_
  refine amSent_at m K c 1 (by decide) (by decide) ?_
  refine amSent_at m K c 2 (by decide) (by decide) ?_
  exact h _

theorem part40 {R : sProp 𝕄} {Q : α → sProp 𝕄} {k} (h : ∀ r, Tri c iprop(PhW m K c 2 0 6 ∗ R) (k r) Q) :
    Tri c iprop(PhW m K c 2 0 3 ∗ R) (k0_part40 xM hx wM hw oM ho gM hg aM ha cc0_scratch2 cc0_scratch3 cc0_scratch4 cc0_scratch5 >>= k) Q := by
  rw [k0_part40_eq_skeleton]; unfold k0_part40_skel
  simp only [Prog.lift, Prog.bind_op, Prog.bind_ret, Prog.pure_eq_ret]
  refine amSent_at m K c 3 (by decide) (by decide) ?_
  refine amSent_at m K c 4 (by decide) (by decide) ?_
  refine amSent_at m K c 5 (by decide) (by decide) ?_
  exact h _

theorem part41 {R : sProp 𝕄} {Q : α → sProp 𝕄} {k} (h : ∀ r, Tri c iprop(PhW m K c 2 0 10 ∗ R) (k r) Q) :
    Tri c iprop(PhW m K c 2 0 6 ∗ R) (k0_part41 xM hx wM hw oM ho gM hg aM ha cc0_scratch2 cc0_scratch3 cc0_scratch4 cc0_scratch5 >>= k) Q := by
  rw [k0_part41_eq_skeleton]; unfold k0_part41_skel
  simp only [Prog.lift, Prog.bind_op, Prog.bind_ret, Prog.pure_eq_ret]
  refine amSent_at m K c 6 (by decide) (by decide) ?_
  refine amSent_at m K c 7 (by decide) (by decide) ?_
  refine amSent_at m K c 8 (by decide) (by decide) ?_
  refine amSent_at m K c 9 (by decide) (by decide) ?_
  exact h _

theorem part42 {R : sProp 𝕄} {Q : α → sProp 𝕄} {k} (h : ∀ r, Tri c iprop(PhW m K c 2 0 14 ∗ R) (k r) Q) :
    Tri c iprop(PhW m K c 2 0 10 ∗ R) (k0_part42 xM hx wM hw oM ho gM hg aM ha cc0_scratch2 cc0_scratch3 cc0_scratch4 cc0_scratch5 >>= k) Q := by
  rw [k0_part42_eq_skeleton]; unfold k0_part42_skel
  simp only [Prog.lift, Prog.bind_op, Prog.bind_ret, Prog.pure_eq_ret]
  refine amSent_at m K c 10 (by decide) (by decide) ?_
  refine amSent_at m K c 11 (by decide) (by decide) ?_
  refine amSent_at m K c 12 (by decide) (by decide) ?_
  refine amSent_at m K c 13 (by decide) (by decide) ?_
  exact h _

end Cert.Proof.Dist
-- ==== Proof.Bounds.lean ====
/-
# Between the body's parts: what turns into what; and the end
-/
module

public import proofs.«01_k».proof.Proof.PartsA
public import proofs.«01_k».proof.Proof.PartsC

@[expose] public section

noncomputable section

namespace Cert.Proof.Dist

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom finUpTo mem_finFrom mem_finUpTo bigSep_finFrom_succ bigSep_finUpTo_succ add_sum_finFrom_succ
  bigSep_finFrom_self bigSep_finUpTo_zero finFrom_self
  bigSep_finFrom_zero bigSep_finUpTo_self)

variable {F : FTy → Type} [FloatOps F]

local notation "𝕄" => MT nD τ sig Unit (Elt F) ℕ UU ℕ

variable (m : (ℓ : Loc nD τ sig) → Buf (Elt F) ℓ) (K : Dev nD × Key → ℕ)

variable {α : Type} (c : Dev nD)

/-! ## What a device holds through the whole run -/

/-- The positions at the ends of the blocks' sends, -/
def W0 : sProp 𝕄 := bigSep (finFrom 16 0) fun i => atPos ER (xcell c 0 i) 0 ∅ 0
/-- at the ends of the maxima's, -/
def W2 : sProp 𝕄 := bigSep (finFrom 16 1) fun i => atPos ER (xcell c 2 i) 0 ∅ 0
/-- and at the two semaphores that nobody uses. -/
def U : sProp 𝕄 := iprop(atPos ER (xcell c 2 0) 0 ∅ 0 ∗ atPos ER (xcell c 3 0) 0 ∅ 0)

/-- All that a wait of the `j`-th array has given. -/
abbrev Got (j : Fin 4) : sProp 𝕄 := bigSep (finUpTo 16 16) (waitDone m c j)

theorem sends_done {f f'} {R : sProp 𝕄} :
    iprop(Ph2 m K c 16 ∗ (Mid' c ∗ (W0 c ∗ (bigSep (finFrom 16 0) (waitRes c 1) ∗ (Wo m c f ∗ (aPts c 0 fullShare f' ∗ R))))))
      ⊢ iprop(PhW m K c 1 (owedA c 1) 0 ∗ (Wo m c f ∗ (bigSep (finFrom 16 0) (waitRes c 0) ∗ (aPts c 0 fullShare f' ∗ (Mid' c ∗ R))))) := by
  have hX : owedA c 1 + owedX c 16 = owedA c 1 := by
    rw [show owedX c 16 = 0 by unfold owedX; rw [finFrom_self]; rfl, add_zero]
  unfold Ph2 PhW W0
  rw [hX]
  iintro ⟨⟨HE, HO, -, Hc⟩, HM, HW, HS, Hwo, Ha, HR⟩
  isplitl [HE HO HS]
  · isplitl [HE]; · iexact HE
    isplitl [HO]; · iexact HO
    isplitl [HS]; · iexact HS
    iapply (waitDone_zero m c 1)
    iempintro
  isplitl [Hwo]; · iexact Hwo
  isplitl [Hc HW]
  · iapply (bigSep_zip (s := finFrom 16 0) (Φ := fun i => cred (tallyAt (xcell c 0 i) () N₁)) (Ψ := fun i => atPos ER (xcell c 0 i) 0 ∅ 0)
      (Θ := waitRes c 0) fun i _ => Entails.of_eq (if_pos (Or.inl (by decide))).symm)
    isplitl [Hc]
    · rw [bigSep_finFrom_zero, ← bigSep_finUpTo_self]; iexact Hc
    iexact HW
  isplitl [Ha]; · iexact Ha
  isplitl [HM]; · iexact HM
  iexact HR

theorem swap₃ {A B X Y R : sProp 𝕄} : iprop(A ∗ (B ∗ (X ∗ (Y ∗ R)))) ⊢ iprop(A ∗ (B ∗ (Y ∗ (X ∗ R)))) := by
  iintro ⟨HA, HB, HX, HY, HR⟩
  isplitl [HA]; · iexact HA
  isplitl [HB]; · iexact HB
  isplitl [HY]; · iexact HY
  isplitl [HX]; · iexact HX
  iexact HR

theorem amax_begin {f} {G₁ R : sProp 𝕄} :
    iprop(PhW m K c 0 (owedA c 1) 16 ∗ (Wo m c f ∗ (aPts c 0 fullShare (AM m c) ∗ (G₁ ∗ (Mid' c ∗ R)))))
      ⊢ iprop(Ph5 m K c 1 ∗ (Wo m c f ∗ (Got m c 0 ∗ (G₁ ∗ (aPts c 0 (partSh 0) (AM m c) ∗ (atPos ER (barCell c) 1 ∅ 0 ∗ R)))))) := by
  unfold PhW Mid' Ph5
  iintro ⟨⟨HE, HO, -, HD⟩, Hwo, Ha, HG, ⟨Hb, Hr⟩, HR⟩
  ihave Ha' := (show aPts c 0 fullShare (AM m c) ⊢ _ from (aPts_share (F := F) c 0 0 (AM m c)).1) $$ Ha
  icases Ha' with ⟨Hp, Ha⟩
  isplitl [HE HO Hr Ha]
  · isplitl [HE]; · iexact HE
    isplitl [HO]; · iexact HO
    isplitl [Hr]; · iexact Hr
    isplitl [Ha]; · iexact Ha
    rw [show finUpTo 16 1 = {0} by decide, bigSep_singleton]
    rw [if_neg (show ¬ used 2 0 by decide)]
    iempintro
  isplitl [Hwo]; · iexact Hwo
  isplitl [HD]; · iexact HD
  isplitl [HG]; · iexact HG
  isplitl [Hp]; · iexact Hp
  isplitl [Hb]; · iexact Hb
  iexact HR

theorem amax_sent {f} {R : sProp 𝕄} :
    iprop(Ph5 m K c 16 ∗ (Wo m c f ∗ (W2 c ∗ (bigSep (finFrom 16 1) (waitRes c 3) ∗ R))))
      ⊢ iprop(PhW m K c 3 0 1 ∗ (Wo m c f ∗ (bigSep (finFrom 16 1) (waitRes c 2) ∗ (aPts c 0 (restSh 16) (AM m c) ∗ R)))) := by
  have hA : owedA c 16 = 0 := by unfold owedA; rw [finFrom_self]; rfl
  unfold Ph5 PhW W2
  rw [hA]
  iintro ⟨⟨HE, HO, -, Ha, Hc⟩, Hwo, HW, HS, HR⟩
  isplitl [HE HO HS]
  · isplitl [HE]; · iexact HE
    isplitl [HO]; · iexact HO
    isplitl [HS]; · iexact HS
    iapply (waitDone_one m c 3 (by decide))
    iempintro
  isplitl [Hwo]; · iexact Hwo
  isplitl [Hc HW]
  · ihave Hc' := (Entails.of_eq ((bigSep_finUpTo_self _).trans ((bigSep_finFrom_zero _).symm.trans (bigSep_finFrom_succ (by decide)
      (fun d : Fin 16 => if used 2 d then cred (tallyAt (xcell c 2 d) () N₂) else (iprop(emp) : sProp 𝕄)))))) $$ Hc
    icases Hc' with ⟨-, Hc⟩
    iapply (bigSep_zip (s := finFrom 16 1) (Φ := fun d : Fin 16 => if used 2 d then cred (tallyAt (xcell c 2 d) () N₂) else (iprop(emp) : sProp 𝕄))
      (Ψ := fun i => atPos ER (xcell c 2 i) 0 ∅ 0) (Θ := waitRes c 2) fun i hi => by
        have hu : used 2 i := Or.inr fun e => by rw [mem_finFrom, e] at hi; exact absurd hi (by decide)
        unfold waitRes
        rw [if_pos hu, if_pos hu]
        exact .refl)
    isplitl [Hc]; · iexact Hc
    iexact HW
  isplitl [Ha]; · iexact Ha
  iexact HR

/-! ## The end: the buffers whole again, the positions, the counters -/

/-- The position at the end of the run. -/
def endAt (j : Fin 4) (i : Fin 16) : sProp 𝕄 := atPos ER (xcell c j i) (if used j i then 1 else 0) ∅ 0

theorem got_all (j : Fin 4) (hj : j.val < 2) : Got m c j ⊢ iprop(bigSep Finset.univ (xPay m c j) ∗ bigSep Finset.univ (endAt (F := F) c j)) := by
  rw [Got, bigSep_finUpTo_self]
  refine bigSep_unzip fun i _ => Entails.of_eq ?_
  have hu : used j i := Or.inl hj
  unfold waitDone endAt
  rw [if_pos hu, if_pos hu]

theorem got_rest (j : Fin 4) (hj : 2 ≤ j.val) :
    iprop(Got m c j ∗ atPos ER (xcell c j 0) 0 ∅ 0) ⊢ iprop(bigSep (finFrom 16 1) (xPay m c j) ∗ bigSep Finset.univ (endAt (F := F) c j)) := by
  have hn : ¬ used j 0 := by rintro (h | h); · omega
                             exact h rfl
  rw [Got, bigSep_finUpTo_self, ← bigSep_finFrom_zero, ← bigSep_finFrom_zero (Φ := endAt c j), bigSep_finFrom_succ (by decide) (waitDone m c j), bigSep_finFrom_succ (by decide) (endAt c j)]
  iintro ⟨⟨-, HD⟩, Hat⟩
  ihave HD' := (bigSep_unzip (s := finFrom 16 1) (Θ := waitDone m c j) (Φ := xPay m c j) (Ψ := endAt c j) fun i hi => Entails.of_eq (by
    have hu : used j i := Or.inr fun e => by rw [mem_finFrom, e] at hi; exact absurd hi (by decide)
    unfold waitDone endAt
    rw [if_pos hu, if_pos hu])) $$ HD
  icases HD' with ⟨HX, HA⟩
  isplitl [HX]; · iexact HX
  isplitl [Hat]
  · unfold endAt
    rw [show (if used j (⟨0, by decide⟩ : Fin 16) then 1 else 0) = 0 from if_neg hn]
    iexact Hat
  iexact HA

/-- The pieces of slot 0's share come together. -/
theorem share_join (f) : ∀ n k : ℕ, n + k = 16 →
    iprop(bigSep (finFrom 16 n) (fun i => aPts (F := F) c 0 (partSh i.val) f) ∗ aPts c 0 (restSh 16) f) ⊢ aPts c 0 (restSh n) f
  | n, 0, h => by
      obtain rfl : n = 16 := h
      iintro ⟨-, H⟩
      iexact H
  | n, k + 1, h => by
      have hn : n < 16 := by omega
      rw [bigSep_finFrom_succ hn]
      iintro ⟨⟨H0, H⟩, Hr⟩
      iapply (aPts_share (F := F) c 0 n f).2
      isplitl [H0]; · iexact H0
      iapply (share_join f (n + 1) k (by omega))
      isplitl [H]; · iexact H
      iexact Hr

theorem amax_whole : iprop(bigSep (finFrom 16 1) (xPay m c 3) ∗ bigSep (finFrom 16 1) (xPay m c 2) ∗ aPts c 0 (partSh 0) (AM m c) ∗ aPts c 0 (restSh 16) (AM m c))
    ⊢ aAll m c := by
  iintro ⟨H3, H2, Hp, Hr⟩
  ihave H2' := (share_join (F := F) c (AM m c) 1 15 rfl) $$ [H2 Hr]
  · isplitl [H2]; · iexact H2
    iexact Hr
  ihave H0 := (aPts_share (F := F) c 0 0 (AM m c)).2 $$ [Hp H2']
  · isplitl [Hp]; · iexact Hp
    iexact H2'
  unfold aAll
  rw [← aSlot_cover]
  iapply (Entails.of_eq (pointsTo_biUnion (ℓ := (c : Thread nD τ).loc cc0_scratch1) Finset.univ (fun s => (aSlot s).view.set)
        (fun s _ s' _ hs => aSlot_disjoint hs)).symm)
  iapply (Entails.of_eq ((bigSep_finFrom_succ (by decide) (fun s : Fin 16 => aPts c s fullShare (AM m c))).symm.trans (bigSep_finFrom_zero _)))
  isplitl [H0]; · iexact H0
  iexact H3

/-- The staged `x` and the whole `xg`. -/
def xAll : sProp 𝕄 := (((c : Thread nD τ).loc cc0_stg0_0) ↦[Finset.univ]{fullShare} xstg m c)
def gAll : sProp 𝕄 := (((c : Thread nD τ).loc cc0_scratch0) ↦[Finset.univ]{fullShare} XG m c)

theorem xg_whole : bigSep Finset.univ (xPay m c 1) ⊢ gAll m c := by
  unfold gAll
  rw [← gCol_cover]
  exact Entails.of_eq (pointsTo_biUnion (ℓ := (c : Thread nD τ).loc cc0_scratch0) Finset.univ (fun s => (gCol s).view.set)
        (fun s _ s' _ hs => gCol_disjoint hs)).symm

/-- The rows of `x`, as the sends take them, -/
theorem fin_add_bij : ∀ c : Fin 16, Function.Bijective fun d : Fin 16 => c + d := by decide

theorem x_rows : bigSep Finset.univ (fun d => xPts m c ((c : Fin 16) + d : Fin 16)) = xAll m c := by
  have h : bigSep Finset.univ (fun d => xPts m c ((c : Fin 16) + d : Fin 16)) = bigSep Finset.univ (xPts m c) :=
    (bigSep_univ_equiv (Equiv.ofBijective _ (fin_add_bij c)) (xPts m c)).symm
  rw [h]
  unfold xAll
  rw [← xRow_cover]
  exact (pointsTo_biUnion (ℓ := (c : Thread nD τ).loc cc0_stg0_0) Finset.univ (fun s => (xRow s).view.set)
        (fun s _ s' _ hs => xRow_disjoint hs)).symm

/-- Every position at the end. -/
def Ends : sProp 𝕄 := iprop(atPos ER (barCell c) 1 ∅ 0 ∗ bigSep Finset.univ (endAt (F := F) c 0) ∗ bigSep Finset.univ (endAt (F := F) c 1)
  ∗ bigSep Finset.univ (endAt (F := F) c 2) ∗ bigSep Finset.univ (endAt (F := F) c 3))
/-- What is left when the last wait is done, beside `w`, the result and the maxima. -/
def Fin' : sProp 𝕄 := iprop(Env m K ∗ owing c 0 ∗ Ends c ∗ xAll m c ∗ gAll m c)

theorem all_done {f} :
    iprop(PhW m K c 2 0 16 ∗ (Wo m c f ∗ (Got m c 3 ∗ (aPts c 0 (restSh 16) (AM m c) ∗ (Got m c 0 ∗ (Got m c 1
        ∗ (aPts c 0 (partSh 0) (AM m c) ∗ (atPos ER (barCell c) 1 ∅ 0 ∗ U c))))))))
      ⊢ iprop(Fin' m K c ∗ (Wo m c f ∗ (aAll m c ∗ emp))) := by
  unfold PhW U Fin' Ends
  iintro ⟨⟨HE, HO, -, H2⟩, Hwo, H3, Hr, H0, H1, Hp, Hb, HU2, HU3⟩
  ihave H2' := (got_rest m c 2 (by decide)) $$ [H2 HU2]
  · isplitl [H2]; · iexact H2
    iexact HU2
  ihave H3' := (got_rest m c 3 (by decide)) $$ [H3 HU3]
  · isplitl [H3]; · iexact H3
    iexact HU3
  ihave H0' := (got_all m c 0 (by decide)) $$ H0
  ihave H1' := (got_all m c 1 (by decide)) $$ H1
  icases H0' with ⟨HX0, HA0⟩
  icases H1' with ⟨HX1, HA1⟩
  icases H2' with ⟨HX2, HA2⟩
  icases H3' with ⟨HX3, HA3⟩
  isplitl [HE HO Hb HA0 HA1 HA2 HA3 HX0 HX1]
  · isplitl [HE]; · iexact HE
    isplitl [HO]; · iexact HO
    isplitl [Hb HA0 HA1 HA2 HA3]
    · isplitl [Hb]; · iexact Hb
      isplitl [HA0]; · iexact HA0
      isplitl [HA1]; · iexact HA1
      isplitl [HA2]; · iexact HA2
      iexact HA3
    isplitl [HX0]
    · iapply (Entails.of_eq (x_rows m c)); iexact HX0
    iapply (xg_whole m c); iexact HX1
  isplitl [Hwo]; · iexact Hwo
  isplitl [HX3 HX2 Hp Hr]
  · iapply (amax_whole m c)
    isplitl [HX3]; · iexact HX3
    isplitl [HX2]; · iexact HX2
    isplitl [Hp]; · iexact Hp
    iexact Hr
  iempintro

/-- The counters of a device's cells, at zero. -/
def Zeros : sProp 𝕄 := bigSep Finset.univ fun k : Key => semVal (kcell c k) 0

theorem close_x (j : Fin 4) : iprop(records m K ∗ bigSep Finset.univ (endAt (F := F) c j))
    ⊢ |={Set.univ}=> bigSep Finset.univ fun i : Fin 16 => semVal (xcell c j i) 0 := by
  refine ((sep_mono_left (BI.bigSep_of_persistent Finset.univ (records m K))).trans (bigSep_zip (Θ := fun i => iprop(|={Set.univ}=> semVal (xcell c j i) 0))
    fun i _ => ?_)).trans (bigSep_fupd _ _)
  unfold endAt
  iintro ⟨#HI, Hat⟩
  iapply (Rounds.cell_close ER (Rd m) (g := xcell c j i) (Set.mem_univ (K (c, some (j, i)))) (fun h => h) (R := if used j i then 1 else 0) (fun r hr => by
    by_cases hu : used j i
    · rw [if_pos hu] at hr; exact duties_later m _ r hr
    · exact duties_unused m c hu r))
  isplitr; · iapply (inv_at m K c (some (j, i))); iexact HI
  iexact Hat

theorem close_bar : iprop(records m K ∗ atPos ER (barCell c) 1 ∅ 0) ⊢ |={Set.univ}=> semVal (barCell c) 0 := by
  iintro ⟨#HI, Hat⟩
  iapply (Rounds.cell_close ER (Rd m) (g := barCell c) (Set.mem_univ (K (c, none))) (fun h => h) (R := 1) (duties_later m _))
  isplitr; · iapply (inv_at m K c none); iexact HI
  iexact Hat

/-- A family over the keys: the barrier's, and the four arrays'. -/
theorem bigSep_keys (Φ : Key → sProp 𝕄) : bigSep Finset.univ Φ
    = iprop(Φ none ∗ bigSep Finset.univ (fun i => Φ (some (0, i))) ∗ bigSep Finset.univ (fun i => Φ (some (1, i)))
      ∗ bigSep Finset.univ (fun i => Φ (some (2, i))) ∗ bigSep Finset.univ (fun i => Φ (some (3, i)))) := by
  rw [bigSep_univ_at Φ none, show (Finset.univ.erase none : Finset Key) = Finset.univ.map Function.Embedding.some by decide,
    bigSep_map, bigSep_univ_prod, bigSep_univ_eq_bigSepL [0, 1, 2, 3] (by decide) (by decide)]
  rfl

theorem close_all : iprop(records m K ∗ Ends (F := F) c) ⊢ |={Set.univ}=> Zeros (F := F) c := by
  unfold Ends Zeros
  rw [bigSep_keys]
  iintro ⟨#HI, Hb, H0, H1, H2, H3⟩
  imod (close_bar m K c) $$ [Hb] with Hb
  · isplitr; · iexact HI
    iexact Hb
  imod (close_x m K c 0) $$ [H0] with H0
  · isplitr; · iexact HI
    iexact H0
  imod (close_x m K c 1) $$ [H1] with H1
  · isplitr; · iexact HI
    iexact H1
  imod (close_x m K c 2) $$ [H2] with H2
  · isplitr; · iexact HI
    iexact H2
  imod (close_x m K c 3) $$ [H3] with H3
  · isplitr; · iexact HI
    iexact H3
  imodintro
  isplitl [Hb]; · iexact Hb
  isplitl [H0]; · iexact H0
  isplitl [H1]; · iexact H1
  isplitl [H2]; · iexact H2
  iexact H3

/-- What a device has when its program is through. -/
def Post : sProp 𝕄 := iprop(owing c 0 ∗ xAll m c ∗ (wPts m c ∗ oPts c (outAt m c)) ∗ gAll m c ∗ aAll m c ∗ Zeros c)

theorem the_end : iprop(Fin' m K c ∗ (Wo m c (outAt m c) ∗ (aAll m c ∗ emp))) ⊢ |={Set.univ}=> Post m c := by
  unfold Fin' Post Wo Env
  iintro ⟨⟨⟨#HI, -⟩, HO, HE, Hx, Hg⟩, Hwo, Ha, -⟩
  imod (close_all m K c) $$ [HE] with HZ
  · isplitr; · iexact HI
    iexact HE
  imodintro
  isplitl [HO]; · iexact HO
  isplitl [Hx]; · iexact Hx
  isplitl [Hwo]; · iexact Hwo
  isplitl [Hg]; · iexact Hg
  isplitl [Ha]; · iexact Ha
  iexact HZ

end Cert.Proof.Dist
-- ==== Proof.Body.lean ====
/-
# The whole program on one device
-/
module

public import proofs.«01_k».proof.Proof.Bounds

@[expose] public section

noncomputable section

namespace Cert.Proof.Dist

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom finUpTo mem_finFrom mem_finUpTo bigSep_finFrom_succ bigSep_finUpTo_succ add_sum_finFrom_succ
  bigSep_finFrom_self bigSep_finUpTo_zero finFrom_self
  bigSep_finFrom_zero bigSep_finUpTo_self)

variable {F : FTy → Type} [FloatOps F]

local notation "𝕄" => MT nD τ sig Unit (Elt F) ℕ UU ℕ

variable (m : (ℓ : Loc nD τ sig) → Buf (Elt F) ℓ) (K : Dev nD × Key → ℕ)

variable {α : Type} (c : Dev nD)

theorem Tri.assoc {β γ : Type} {A : sProp 𝕄} {p : Prog (TpuEff nD τ sig (Elt F) Λ₀ .tc) β} {f : β → Prog (TpuEff nD τ sig (Elt F) Λ₀ .tc) γ}
    {k : γ → Prog (TpuEff nD τ sig (Elt F) Λ₀ .tc) α} {Q : α → sProp 𝕄} (h : Tri c A (p >>= fun x => f x >>= k) Q) : Tri c A ((p >>= f) >>= k) Q := by
  rw [bind_assoc]; exact h

theorem Tri.ret {A : sProp 𝕄} {a : α} {Q : α → sProp 𝕄} (h : A ⊢ |={Set.univ}=> Q a) : Tri c A (.ret a) Q := by
  unfold Tri; rw [wp_ret]; exact h

theorem regroup_sent {A B X Y Z P T R S : sProp 𝕄} : iprop(A ∗ (B ∗ (X ∗ (Y ∗ (Z ∗ (P ∗ (T ∗ (R ∗ S))))))))
    ⊢ iprop(A ∗ (B ∗ (T ∗ (R ∗ (X ∗ (Y ∗ (Z ∗ (P ∗ S)))))))) := by
  iintro ⟨HA, HB, HX, HY, HZ, HP, HT, HR, HS⟩
  isplitl [HA]; · iexact HA
  isplitl [HB]; · iexact HB
  isplitl [HT]; · iexact HT
  isplitl [HR]; · iexact HR
  isplitl [HX]; · iexact HX
  isplitl [HY]; · iexact HY
  isplitl [HZ]; · iexact HZ
  isplitl [HP]; · iexact HP
  iexact HS

/-- What the body starts with, beside the signals' part. -/
def Rest (f : (cc0_stg2_0 : Ref sig .tc).ty.Contents (Elt F)) (f' : (cc0_scratch1 : Ref sig .tc).ty.Contents (Elt F)) : sProp 𝕄 := iprop(W0 c ∗ (bigSep (finFrom 16 0) (waitRes c 1) ∗ (Wo m c f ∗ (aPts c 0 fullShare f'
  ∗ (W2 c ∗ (bigSep (finFrom 16 1) (waitRes c 3) ∗ U c))))))

variable {hx : xM.IsWhole} {hw : wM.IsWhole} {ho : oM.IsWhole} {hg : gM.IsWhole} {ha : aM.IsWhole}

set_option maxHeartbeats 1000000 in
/-- The first 43 parts, -/
theorem part43 {Q : α → sProp 𝕄} {k} {f f'} (h : ∀ r, Tri c iprop(PhW m K c 2 0 15 ∗ (Wo m c (k0_pay7 (acc₃ m c)) ∗ (Got m c 3 ∗ (aPts c 0 (restSh 16) (AM m c) ∗ (Got m c 0 ∗ (Got m c 1
        ∗ (aPts c 0 (partSh 0) (AM m c) ∗ (atPos ER (barCell c) 1 ∅ 0 ∗ U c)))))))) (k r) Q) :
    Tri c iprop(Ph1 m K c 1 ∗ (Mid m c ∗ Rest m c f f')) (k0_part43 xM hx wM hw oM ho gM hg aM ha cc0_scratch2 cc0_scratch3 cc0_scratch4 cc0_scratch5 >>= k) Q := by
  rw [k0_part43_eq_skeleton]; unfold k0_part43_skel Rest
  refine Tri.assoc c ?_
  refine part1 m K c ?_
  intro a b d e
  refine Tri.assoc c ?_
  refine part2 m K c ?_
  rintro ⟨a₁_2, a₂_2, a₃_2⟩
  refine Tri.assoc c ?_
  refine part3 m K c ?_
  rintro ⟨a₁_3, a₂_3, a₃_3⟩
  refine Tri.assoc c ?_
  refine part4 m K c ?_
  rintro ⟨a₁_4, a₂_4, a₃_4⟩
  refine Tri.assoc c ?_
  refine part5 m K c ?_
  rintro ⟨a₁_5, a₂_5, a₃_5⟩
  refine Tri.assoc c ?_
  refine part6 m K c ?_
  rintro ⟨a₁_6, a₂_6, a₃_6⟩
  refine Tri.assoc c ?_
  refine part7 m K c ?_
  rintro ⟨a₁_7, a₂_7, a₃_7, a₄_7, a₅_7⟩
  refine Tri.assoc c ?_
  refine part8 m K c ?_
  intro r8
  refine Tri.assoc c ?_
  refine part9 m K c ?_
  rintro ⟨a₁_9, a₂_9⟩
  refine Tri.assoc c ?_
  refine part10 m K c ?_
  rintro ⟨a₁_10, a₂_10, a₃_10, a₄_10, a₅_10⟩
  refine Tri.assoc c ?_
  refine part11 m K c ?_
  intro r11
  refine Tri.assoc c ?_
  refine part12 m K c ?_
  rintro ⟨a₁_12, a₂_12⟩
  refine Tri.assoc c ?_
  refine part13 m K c ?_
  rintro ⟨a₁_13, a₂_13, a₃_13, a₄_13, a₅_13⟩
  refine Tri.assoc c ?_
  refine part14 m K c ?_
  intro r14
  refine Tri.assoc c ?_
  refine part15 m K c ?_
  rintro ⟨a₁_15, a₂_15⟩
  refine Tri.assoc c ?_
  refine part16 m K c ?_
  intro r16
  refine Tri.assoc c ?_
  refine Tri.pre (sends_done m K c) ?_
  refine part17 m K c ?_
  refine Tri.assoc c ?_
  refine part18 m K c ?_
  intro r18
  refine Tri.assoc c ?_
  refine part19 m K c ?_
  intro r19
  refine Tri.assoc c ?_
  refine part20 m K c ?_
  intro r20
  refine Tri.assoc c ?_
  refine part21 m K c ?_
  refine Tri.assoc c ?_
  refine part22 m K c ?_
  intro r22
  refine Tri.assoc c ?_
  refine part23 m K c ?_
  intro r23
  refine Tri.assoc c ?_
  refine Tri.pre swap₃ ?_
  refine part24 m K c ?_
  rintro ⟨a₁_24, a₂_24⟩
  refine Tri.assoc c ?_
  refine Tri.pre (amax_begin m K c) ?_
  refine part25 m K c ?_
  rintro ⟨a₁_25, a₂_25, a₃_25⟩
  refine Tri.assoc c ?_
  refine part26 m K c ?_
  rintro ⟨a₁_26, a₂_26, a₃_26, a₄_26, a₅_26⟩
  refine Tri.assoc c ?_
  refine part27 m K c ?_
  rintro ⟨a₁_27, a₂_27⟩
  refine Tri.assoc c ?_
  refine part28 m K c ?_
  rintro ⟨a₁_28, a₂_28, a₃_28, a₄_28⟩
  refine Tri.assoc c ?_
  refine part29 m K c ?_
  rintro ⟨a₁_29, a₂_29⟩
  refine Tri.assoc c ?_
  refine part30 m K c ?_
  rintro ⟨a₁_30, a₂_30, a₃_30, a₄_30, a₅_30⟩
  refine Tri.assoc c ?_
  refine part31 m K c ?_
  rintro ⟨a₁_31, a₂_31⟩
  refine Tri.assoc c ?_
  refine part32 m K c ?_
  rintro ⟨a₁_32, a₂_32, a₃_32, a₄_32, a₅_32⟩
  refine Tri.assoc c ?_
  refine part33 m K c ?_
  rintro ⟨a₁_33, a₂_33⟩
  refine Tri.assoc c ?_
  refine part34 m K c ?_
  intro r34
  refine Tri.assoc c ?_
  refine Tri.pre (regroup_sent.trans (amax_sent m K c)) ?_
  refine part35 m K c ?_
  intro r35
  refine Tri.assoc c ?_
  refine part36 m K c ?_
  intro r36
  refine Tri.assoc c ?_
  refine part37 m K c ?_
  intro r37
  refine Tri.assoc c ?_
  refine part38 m K c ?_
  intro r38
  refine Tri.assoc c ?_
  refine part39 m K c ?_
  intro r39
  refine Tri.assoc c ?_
  refine part40 m K c ?_
  intro r40
  refine Tri.assoc c ?_
  refine part41 m K c ?_
  intro r41
  refine Tri.assoc c ?_
  refine part42 m K c ?_
  intro r42
  simp only [Prog.lift, Prog.bind_op, Prog.bind_ret, Prog.pure_eq_ret]
  refine amSent_at m K c 14 (by decide) (by decide) ?_
  exact h _

/-- and the whole program: from what the launch gives to what the end leaves. -/
theorem body_run {f f'} : Tri c iprop(Ph1 m K c 1 ∗ (Mid m c ∗ Rest m c f f'))
    (cc0_body xM hx wM hw oM ho gM hg aM ha cc0_scratch2 cc0_scratch3 cc0_scratch4 cc0_scratch5) (fun _ => Post m c) := by
  rw [cc0_body_eq_skeleton]; unfold cc0_body_skel
  refine part43 m K c fun r => ?_
  simp only [Prog.lift, Prog.bind_op, Prog.bind_ret, Prog.pure_eq_ret]
  refine amSent_at m K c 15 (by decide) (by decide) ?_
  refine Tri.pre (all_done m K c) ?_
  refine load_a m c ?_
  refine load_o m c ?_
  refine load_o m c ?_
  refine store_o m c ?_
  exact Tri.ret c (the_end m K c)

end Cert.Proof.Dist
-- ==== Proof.Start.lean ====
/-
# What the launch deals

Each device starts with its positions at its 65 semaphores, the tokens of the payments it makes (which are the
other devices' semaphores' tokens, dealt around), the credit of the payments it waits for, and its buffers. This
module says how the tokens go around, how much credit there is, and that what a device starts with is what its
program needs.
-/
module

public import proofs.«01_k».proof.Proof.Body

@[expose] public section

noncomputable section

namespace Cert.Proof.Dist

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom finUpTo mem_finFrom bigSep_finFrom_succ bigSep_finFrom_zero)

variable {F : FTy → Type} [FloatOps F]

local notation "𝕄" => MT nD τ sig Unit (Elt F) ℕ UU ℕ

variable (m : (ℓ : Loc nD τ sig) → Buf (Elt F) ℓ) (K : Dev nD × Key → ℕ) (c : Dev nD)

/-! ## The tokens -/

/-- The token of a duty of device `p.1.1`: at its barrier the duty of the device at distance `p.1.2`, at semaphore
    `p.1.2` of an array the one duty. -/
def tokOf (p : (Dev nD × Fin 16) × Option (Fin 4)) : GSem nD τ sig × ℕ × Fin 16 :=
  match p.2 with
  | none => (barCell p.1.1, 0, p.1.2)
  | some j => (xcell p.1.1 j p.1.2, 0, 0)

theorem tokOf_injective : Function.Injective tokOf := by
  rintro ⟨⟨c, e⟩, k⟩ ⟨⟨c', e'⟩, k'⟩ h
  rcases k with _ | j <;> rcases k' with _ | j'
  · have h1 := kcell_injective (a₁ := (c, none)) (a₂ := (c', none)) (congrArg Prod.fst h)
    have h2 : e = e' := congrArg (fun x => x.2.2) h
    rw [(Prod.mk.inj h1).1, h2]
  · have h1 := kcell_injective (a₁ := (c, none)) (a₂ := (c', some (j', e'))) (congrArg Prod.fst h)
    exact absurd (Prod.mk.inj h1).2 (by simp)
  · have h1 := kcell_injective (a₁ := (c, some (j, e))) (a₂ := (c', none)) (congrArg Prod.fst h)
    exact absurd (Prod.mk.inj h1).2 (by simp)
  · have h1 := kcell_injective (a₁ := (c, some (j, e))) (a₂ := (c', some (j', e'))) (congrArg Prod.fst h)
    have h2 := Prod.mk.inj (Option.some.inj (Prod.mk.inj h1).2)
    rw [(Prod.mk.inj h1).1, h2.1, h2.2]

/-- The tokens of device `c`'s own cells, -/
def toks : sProp 𝕄 := bigSep Finset.univ fun e : Fin 16 =>
  iprop(dutyTok ER (barCell c) 0 e ∗ dutyTok ER (xcell c 0 e) 0 0 ∗ dutyTok ER (xcell c 1 e) 0 0
    ∗ dutyTok ER (xcell c 2 e) 0 0 ∗ dutyTok ER (xcell c 3 e) 0 0)

/-- and those of the payments it makes, distance by distance. -/
def payToks : sProp 𝕄 := bigSep Finset.univ fun d : Fin 16 =>
  iprop(dutyTok ER (barCell ((c : Fin 16) + d : Fin 16)) 0 (-d) ∗ dutyTok ER (xcell c 0 d) 0 0 ∗ dutyTok ER (xcell ((c : Fin 16) + d : Fin 16) 1 c) 0 0
    ∗ dutyTok ER (xcell c 2 d) 0 0 ∗ dutyTok ER (xcell ((c : Fin 16) + d : Fin 16) 3 d) 0 0)

theorem pay_bar_bij : Function.Bijective fun p : Fin 16 × Fin 16 => (p.1 + p.2, -p.2) :=
  Function.bijective_iff_has_inverse.mpr ⟨fun p => (p.1 + p.2, -p.2), by decide, by decide⟩
theorem pay_x_bij : Function.Bijective fun p : Fin 16 × Fin 16 => (p.1 + p.2, p.1) :=
  Function.bijective_iff_has_inverse.mpr ⟨fun p => (p.2, p.1 - p.2), by decide, by decide⟩
theorem pay_a_bij : Function.Bijective fun p : Fin 16 × Fin 16 => (p.1 + p.2, p.2) :=
  Function.bijective_iff_has_inverse.mpr ⟨fun p => (p.1 - p.2, p.2), by decide, by decide⟩

/-- A family over all pairs of devices, in the order another numbering of the pairs gives. -/
theorem deal {f : Fin 16 × Fin 16 → Fin 16 × Fin 16} (hf : Function.Bijective f) (Φ : Fin 16 → Fin 16 → sProp 𝕄) :
    (bigSep Finset.univ fun c => bigSep Finset.univ fun e => Φ c e)
      = bigSep Finset.univ fun c => bigSep Finset.univ fun d => Φ (f (c, d)).1 (f (c, d)).2 := by
  rw [← bigSep_univ_prod (fun p : Fin 16 × Fin 16 => Φ p.1 p.2), bigSep_univ_equiv (Equiv.ofBijective f hf), bigSep_univ_prod]
  rfl

/-- The tokens go around: what is one device's to be paid is another's to pay. -/
theorem toks_around : (bigSep Finset.univ fun c : Dev nD => (toks c : sProp 𝕄)) ⊢ bigSep Finset.univ fun c : Dev nD => payToks c := by
  unfold toks payToks
  simp only [bigSep_sep']
  iintro ⟨HB, H0, H1, H2, H3⟩
  isplitl [HB]
  · iapply (Entails.of_eq (deal (F := F) pay_bar_bij fun c e => dutyTok ER (barCell c) 0 e)); iexact HB
  isplitl [H0]; · iexact H0
  isplitl [H1]
  · iapply (Entails.of_eq (deal (F := F) pay_x_bij fun c e => dutyTok ER (xcell c 1 e) 0 0)); iexact H1
  isplitl [H2]; · iexact H2
  iapply (Entails.of_eq (deal (F := F) pay_a_bij fun c e => dutyTok ER (xcell c 3 e) 0 0)); iexact H3

/-! ## The credit -/

theorem tally_kcell (c d : Dev nD) (k k' : Key) (a : ℕ) :
    (tallyAt (kcell d k') () a : CellTallies nD τ sig Unit) (kcell c k) () = if c = d ∧ k = k' then a else 0 := by
  rw [tallyAt_apply]
  refine if_congr ⟨fun h => ?_, fun h => by rw [h.1, h.2]; exact ⟨rfl, rfl⟩⟩ rfl rfl
  have h1 := kcell_injective (a₁ := (c, k)) (a₂ := (d, k')) h.1
  exact Prod.mk.inj h1

theorem owed_sum (S : Finset (Fin 16)) (f : Fin 16 → Dev nD × Key) (a : ℕ) (k : Key) :
    (∑ e ∈ S, (tallyAt (kcell (f e).1 (f e).2) () a : CellTallies nD τ sig Unit)) (kcell c k) ()
      = ∑ e ∈ S, if c = (f e).1 ∧ k = (f e).2 then a else 0 := by
  rw [Finset.sum_apply, Finsupp.finsetSum_apply]
  exact Finset.sum_congr rfl fun e _ => tally_kcell c (f e).1 k (f e).2 a

/-- What device `d` owes at key `k` of device `c`. -/
theorem owed_at (d : Dev nD) (k : Key) : O₀ d (kcell c k) () =
    (∑ e ∈ finFrom 16 1, if c = ((d : Fin 16) + e : Fin 16) ∧ k = some (3, e) then N₂ else 0)
    + (∑ e ∈ finFrom 16 0, if c = ((d : Fin 16) + e : Fin 16) ∧ k = some (1, d) then N₁ else 0)
    + (∑ e ∈ finFrom 16 1, if c = ((d : Fin 16) + e : Fin 16) ∧ k = none then 1 else 0) := by
  unfold O₀ owedA owedX owedB
  rw [Pi.add_apply, Finsupp.add_apply, Pi.add_apply, Finsupp.add_apply]
  exact congrArg₂ (· + ·) (congrArg₂ (· + ·) (owed_sum c _ (fun e => ((d : Fin 16) + e, some (3, e))) N₂ k)
    (owed_sum c _ (fun e => ((d : Fin 16) + e, some (1, d))) N₁ k)) (owed_sum c _ (fun e => ((d : Fin 16) + e, none)) 1 k)

theorem count_bar : ∀ c : Fin 16, (∑ d : Fin 16, ∑ e ∈ finFrom 16 1, if c = d + e then 1 else 0) = 15 := by decide +kernel
theorem count_x (a : ℕ) (c i : Fin 16) : (∑ d : Fin 16, ∑ e ∈ finFrom 16 0, if c = d + e ∧ i = d then a else 0) = a := by
  have h : ∀ c i : Fin 16, ∑ d : Fin 16, ((finFrom 16 0).filter fun e => c = d + e ∧ i = d).card = 1 := by decide +kernel
  simp only [← Finset.sum_filter, Finset.sum_const, smul_eq_mul, ← Finset.sum_mul, h c i, one_mul]
theorem count_a (a : ℕ) (c i : Fin 16) (hi : i ∈ finFrom 16 1) : (∑ d : Fin 16, ∑ e ∈ finFrom 16 1, if c = d + e ∧ i = e then a else 0) = a := by
  have h : ∀ c i : Fin 16, i ∈ finFrom 16 1 → ∑ d : Fin 16, ((finFrom 16 1).filter fun e => c = d + e ∧ i = e).card = 1 := by decide +kernel
  simp only [← Finset.sum_filter, Finset.sum_const, smul_eq_mul, ← Finset.sum_mul, h c i hi, one_mul]

theorem launch_at (k : Key) (n : ℕ) (h : ∑ d : Dev nD, O₀ d (kcell c k) () = n) :
    tallyOn (kcell c k) (launchCredit (Pipeline.owing O₀) 0 (kcell c k)) = (tallyAt (kcell c k) () n : CellTallies nD τ sig Unit) := by
  unfold tallyAt; refine congrArg _ (Finsupp.ext fun u => ?_); cases u
  rw [Pipeline.launchCredit_owing, Finsupp.single_eq_same, h]

theorem launch_bar : ∑ d : Dev nD, O₀ d (barCell c) () = 15 := by
  rw [Finset.sum_congr rfl fun d _ => owed_at c d none]
  simp only [reduceCtorEq, and_false, if_false, Finset.sum_const_zero, zero_add, and_true]
  exact count_bar c
theorem launch_x (i : Fin 16) : ∑ d : Dev nD, O₀ d (xcell c 1 i) () = xAmt 1 := by
  rw [Finset.sum_congr rfl fun d _ => owed_at c d (some (1, i)), show xAmt 1 = N₁ from if_pos (by decide)]
  simp only [reduceCtorEq, Option.some.injEq, Prod.mk.injEq, show ¬ (1 : Fin 4) = 3 by decide, false_and, true_and, and_false, if_false, Finset.sum_const_zero, zero_add, add_zero]
  exact count_x N₁ c i
theorem launch_a (i : Fin 16) (hi : i ∈ finFrom 16 1) : ∑ d : Dev nD, O₀ d (xcell c 3 i) () = xAmt 3 := by
  rw [Finset.sum_congr rfl fun d _ => owed_at c d (some (3, i)), show xAmt 3 = N₂ from if_neg (by decide)]
  simp only [reduceCtorEq, Option.some.injEq, Prod.mk.injEq, show ¬ (3 : Fin 4) = 1 by decide, false_and, true_and, and_false, if_false, Finset.sum_const_zero, zero_add, add_zero]
  exact count_a N₂ c i hi

/-- The credit a device waits for: fifteen units at its barrier, every block of `x`, fifteen maxima. -/
def creds : sProp 𝕄 := iprop(cred (tallyAt (barCell c) () 15) ∗ (bigSep (finFrom 16 0) fun i => cred (tallyAt (xcell c 1 i) () (xAmt 1)))
  ∗ bigSep (finFrom 16 1) fun i => cred (tallyAt (xcell c 3 i) () (xAmt 3)))

/-- A family entails another member by member. -/
theorem each {s : Finset (Fin 16)} {Φ Ψ : Fin 16 → sProp 𝕄} (h : ∀ i ∈ s, Φ i ⊢ Ψ i) : bigSep s Φ ⊢ bigSep s Ψ := bigSep_mono h

theorem drop_first {Φ : Fin 16 → sProp 𝕄} : bigSep Finset.univ Φ ⊢ bigSep (finFrom 16 1) Φ := bigSep_subset (Finset.subset_univ _)

/-- The launch's credit at key `k`. -/
def credAt (k : Key) : sProp 𝕄 := cred (tallyOn (kcell c k) (launchCredit (Pipeline.owing O₀) 0 (kcell c k)))

theorem credAt_eq (k : Key) (n : ℕ) (h : ∑ d : Dev nD, O₀ d (kcell c k) () = n) : (credAt c k : sProp 𝕄) ⊢ cred (tallyAt (kcell c k) () n) := by
  unfold credAt; rw [launch_at c k n h]

theorem creds_all : (Pipeline.launchCred O₀ c : sProp 𝕄) ⊢ bigSep Finset.univ (credAt c) := by
  unfold Pipeline.launchCred
  refine (show _ ⊢ _ from bigSep_subset (Finset.subset_univ (Finset.univ.map ⟨ksem, ksem_injective⟩))).trans (Entails.of_eq ?_)
  rw [bigSep_map]
  rfl

theorem creds_intro : (Pipeline.launchCred O₀ c : sProp 𝕄) ⊢ creds c := by
  refine (creds_all c).trans ?_
  unfold creds
  rw [bigSep_keys]
  iintro ⟨HB, -, H1, -, H3⟩
  isplitl [HB]
  · iapply (credAt_eq (F := F) c none 15 (launch_bar c)); iexact HB
  isplitl [H1]
  · rw [bigSep_finFrom_zero]
    iapply (each (s := Finset.univ) (Φ := fun i : Fin 16 => (credAt c (some (1, i)) : sProp 𝕄)) (Ψ := fun i : Fin 16 => cred (tallyAt (xcell c 1 i) () (xAmt 1)))
      fun i _ => credAt_eq (F := F) c (some (1, i)) (xAmt 1) (launch_x c i)); iexact H1
  iapply (each (s := finFrom 16 1) (Φ := fun i : Fin 16 => (credAt c (some (3, i)) : sProp 𝕄)) (Ψ := fun i : Fin 16 => cred (tallyAt (xcell c 3 i) () (xAmt 3)))
    fun i hi => credAt_eq (F := F) c (some (3, i)) (xAmt 3) (launch_a c i hi))
  iapply (drop_first (F := F)); iexact H3

/-! ## What a device starts with is what its program needs -/

/-- The positions at a device's cells. -/
def Positions : sProp 𝕄 := bigSep Finset.univ fun k : Key => atPos ER (kcell c k) 0 ∅ 0

theorem g_split (f : (cc0_scratch0 : Ref sig .tc).ty.Contents (Elt F)) :
    (((c : Thread nD τ).loc cc0_scratch0) ↦[Finset.univ]{fullShare} f) ⊢ iprop(own c ∗ bigSep (finFrom 16 1) fun d => iprop(∃ f, gPts (F := F) c ((c : Fin 16) + d : Fin 16) f)) := by
  rw [← gCol_cover]
  refine (Entails.of_eq (pointsTo_biUnion (ℓ := (c : Thread nD τ).loc cc0_scratch0) Finset.univ (fun s => (gCol s).view.set)
        (fun s _ s' _ hs => gCol_disjoint hs))).trans ?_
  refine (Entails.of_eq ((bigSep_univ_equiv (Equiv.ofBijective _ (fin_add_bij c)) (fun s => gPts c s f)).trans
    ((bigSep_finFrom_zero _).symm.trans (bigSep_finFrom_succ (by decide) _)))).trans ?_
  have h0 : (c : Fin 16) + (⟨0, by decide⟩ : Fin 16) = c := by revert c; decide
  iintro ⟨H0, H⟩
  isplitl [H0]
  · unfold own; iexists f
    rw [show gPts c c f = gPts c ((c : Fin 16) + (⟨0, by decide⟩ : Fin 16) : Fin 16) f by rw [h0]]
    iexact H0
  iapply (each (s := finFrom 16 1) (Φ := fun d => gPts c ((c : Fin 16) + d : Fin 16) f) (Ψ := fun d => iprop(∃ f, gPts c ((c : Fin 16) + d : Fin 16) f)) fun d _ => by
    iintro H; iexists f; iexact H)
  iexact H

theorem fin_neg_bij : Function.Bijective fun d : Fin 16 => -d := by decide

theorem a_split (f : (cc0_scratch1 : Ref sig .tc).ty.Contents (Elt F)) :
    (((c : Thread nD τ).loc cc0_scratch1) ↦[Finset.univ]{fullShare} f) ⊢ iprop(aPts c 0 fullShare f ∗ bigSep (finFrom 16 1) fun d => iprop(∃ f, aPts (F := F) c (-d) fullShare f)) := by
  rw [← aSlot_cover]
  refine (Entails.of_eq (pointsTo_biUnion (ℓ := (c : Thread nD τ).loc cc0_scratch1) Finset.univ (fun s => (aSlot s).view.set)
        (fun s _ s' _ hs => aSlot_disjoint hs))).trans ?_
  refine (Entails.of_eq ((bigSep_univ_equiv (Equiv.ofBijective _ fin_neg_bij) (fun s => aPts c s fullShare f)).trans
    ((bigSep_finFrom_zero _).symm.trans (bigSep_finFrom_succ (by decide) _)))).trans ?_
  iintro ⟨H0, H⟩
  isplitl [H0]; · iexact H0
  iapply (each (s := finFrom 16 1) (Φ := fun d : Fin 16 => aPts c (-d) fullShare f) (Ψ := fun d : Fin 16 => iprop(∃ f, aPts c (-d) fullShare f)) fun d _ => by
    iintro H; iexists f; iexact H)
  iexact H

/-- Credit and position together, at the semaphores a device waits on. -/
theorem wait_intro (j : Fin 4) (n : ℕ) (hu : ∀ i ∈ finFrom 16 n, used j i) :
    iprop((bigSep (finFrom 16 n) fun i => cred (tallyAt (xcell c j i) () (xAmt j))) ∗ bigSep (finFrom 16 n) fun i => atPos ER (xcell c j i) 0 ∅ 0)
      ⊢ bigSep (finFrom 16 n) (waitRes (F := F) c j) :=
  bigSep_zip fun i hi => by unfold waitRes; rw [if_pos (hu i hi)]

theorem enter {f : (cc0_stg2_0 : Ref sig .tc).ty.Contents (Elt F)} {f0 : (cc0_scratch0 : Ref sig .tc).ty.Contents (Elt F)} {f1 : (cc0_scratch1 : Ref sig .tc).ty.Contents (Elt F)} :
    iprop(Env m K ∗ Positions c ∗ payToks c ∗ creds c ∗ owing c (O₀ c) ∗ xAll m c ∗ wPts m c ∗ oPts c f
        ∗ (((c : Thread nD τ).loc cc0_scratch0) ↦[Finset.univ]{fullShare} f0) ∗ (((c : Thread nD τ).loc cc0_scratch1) ↦[Finset.univ]{fullShare} f1))
      ⊢ iprop(Ph1 m K c 1 ∗ (Mid m c ∗ Rest m c f f1)) := by
  unfold Positions payToks creds Ph1 Mid Rest barRes tok2 tok5 W0 W2 U Wo
  simp only [bigSep_sep', bigSep_keys]
  iintro ⟨HE, ⟨HpB, Hp0, Hp1, Hp2, Hp3⟩, ⟨HtB, Ht0, Ht1, Ht2, Ht3⟩, ⟨HcB, Hc1, Hc3⟩, HO, Hx, Hw, Ho, Hg, Ha⟩
  ihave Hg' := (g_split c f0) $$ Hg
  icases Hg' with ⟨Hown, Hg⟩
  ihave Ha' := (a_split c f1) $$ Ha
  icases Ha' with ⟨Ha0, Ha⟩
  ihave Hp2' := (Entails.of_eq ((bigSep_finFrom_zero _).symm.trans (bigSep_finFrom_succ (by decide) fun i : Fin 16 => atPos ER (xcell c 2 i) 0 ∅ 0))) $$ Hp2
  ihave Hp3' := (Entails.of_eq ((bigSep_finFrom_zero _).symm.trans (bigSep_finFrom_succ (by decide) fun i : Fin 16 => atPos ER (xcell c 3 i) 0 ∅ 0))) $$ Hp3
  icases Hp2' with ⟨HU2, Hp2⟩
  icases Hp3' with ⟨HU3, Hp3⟩
  isplitl [HE HO HtB Hg Ha]
  · isplitl [HE]; · iexact HE
    isplitl [HO]; · iexact HO
    unfold sigRes
    simp only [bigSep_sep']
    isplitl [HtB]
    · iapply (drop_first (F := F)); iexact HtB
    isplitl [Hg]; · iexact Hg
    iexact Ha
  isplitl [HcB HpB Ht0 Ht1 Hx Ht2 Ht3 Hown]
  · isplitl [HcB HpB]
    · isplitl [HcB]; · iexact HcB
      iexact HpB
    isplitl [Ht0 Ht1 Hx]
    · simp only [bigSep_finFrom_zero]
      isplitl [Ht0]; · iexact Ht0
      isplitl [Ht1]; · iexact Ht1
      iapply (Entails.of_eq (x_rows m c).symm); iexact Hx
    isplitl [Ht2 Ht3]
    · isplitl [Ht2]
      · iapply (drop_first (F := F)); iexact Ht2
      iapply (drop_first (F := F)); iexact Ht3
    iexact Hown
  isplitl [Hp0]
  · rw [bigSep_finFrom_zero]; iexact Hp0
  isplitl [Hc1 Hp1]
  · iapply (wait_intro (F := F) c 1 0 fun i _ => Or.inl (by decide))
    isplitl [Hc1]; · iexact Hc1
    rw [bigSep_finFrom_zero]; iexact Hp1
  isplitl [Hw Ho]
  · isplitl [Hw]; · iexact Hw
    iexact Ho
  isplitl [Ha0]; · iexact Ha0
  isplitl [Hp2]; · iexact Hp2
  isplitl [Hc3 Hp3]
  · iapply (wait_intro (F := F) c 3 1 fun i hi => Or.inr fun e => by rw [mem_finFrom, e] at hi; exact absurd hi (by decide))
    isplitl [Hc3]; · iexact Hc3
    iexact Hp3
  isplitl [HU2]; · iexact HU2
  iexact HU3

end Cert.Proof.Dist
-- ==== Proof.Point.lean ====
/-
# The launch: the run of all sixteen devices

The one grid point of the kernel is run on every device from what the launch deals (`Start`); what it leaves is the
result array at its computed contents, the arguments as they were and every semaphore at zero.
-/
module

public import proofs.«01_k».proof.Proof.Start
public import proofs.«01_k».proof.Proof.Gen.KernelIdeal.Points

@[expose] public section

noncomputable section

namespace Cert.Proof.Dist

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.ProtocolKit (finFrom finUpTo mem_finFrom bigSep_finFrom_succ bigSep_finFrom_zero)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's one point -/

/-- What device `c` starts its point from, beside its buffers. -/
def start (c : Dev nD) : sProp 𝕄 := iprop(∃ K, Env m K ∗ Positions c ∗ payToks c ∗ creds c)

def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- What it leaves, beside the staged arrays. -/
def Φ₁ (c : Dev nD) : sProp 𝕄 := iprop(gAll m c ∗ aAll m c ∗ Zeros c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

abbrev t₀ : Fin cfg0.N := t0_0

def bodyPre (c : Dev nD) : sProp 𝕄 :=
  iprop(Φ₀ m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))

def bodyPost (c : Dev nD) : sProp 𝕄 :=
  iprop(Φ₁ m c ∗ (dats m 0 c).owesAt () t₀.succ ∗ stg c cc0_stg0_0 (xstg m c) ∗ stg c cc0_stg1_0 (wstg m c) ∗ stg c cc0_stg2_0 (outAt m c))

theorem before_x (c : Dev nD) (d) : (dats m 0 c).before (0 : Fin 3) t₀ d = xstg m c := by
  unfold Dat.before; rw [if_pos (fetch0_0 t₀)]; rfl
theorem before_w (c : Dev nD) (d) : (dats m 0 c).before (1 : Fin 3) t₀ d = wstg m c := by
  unfold Dat.before; rw [if_pos (fetch0_1 t₀)]; rfl

theorem body_leaves (c : Dev nD) : Post m c ⊢ bodyPost m c := by
  unfold Post bodyPost Φ₁ Dat.owesAt Pipeline.owesWithin owing xAll wPts oPts stg
  iintro ⟨⟨%W, HO⟩, Hx, ⟨Hw, Ho⟩, Hg, Ha, HZ⟩
  isplitl [Hg Ha HZ]
  · isplitl [Hg]; · iexact Hg
    isplitl [Ha]; · iexact Ha
    iexact HZ
  isplitl [HO]
  · iexists W
    isplitr; · ipureintro; exact fun _ _ => Or.inl trivial
    iexact HO
  isplitl [Hx]
  · iexists (xstg m c); isplitr; · (ipureintro; rfl)
    iexact Hx
  isplitl [Hw]
  · iexists (wstg m c); isplitr; · (ipureintro; rfl)
    iexact Hw
  iexists (outAt m c); isplitr; · (ipureintro; rfl)
  iexact Ho

theorem body_all (K : Dev nD × Key → ℕ) (c : Dev nD) {f f'} : Tri c iprop(Ph1 m K c 1 ∗ (Mid m c ∗ Rest m c f f'))
    (cc0_body xM (Memref.isWhole_whole _) wM (Memref.isWhole_whole _) oM (Memref.isWhole_whole _) gM (Memref.isWhole_whole _) aM (Memref.isWhole_whole _)
      cc0_scratch2 cc0_scratch3 cc0_scratch4 cc0_scratch5) (fun _ => bodyPost m c) := by
  unfold Tri
  refine BIBase.Entails.trans (body_run m K c (hx := Memref.isWhole_whole _) (hw := Memref.isWhole_whole _) (ho := Memref.isWhole_whole _) (hg := Memref.isWhole_whole _) (ha := Memref.isWhole_whole _)) ?_
  exact Sem.wp_mono _ _ _ fun _ => body_leaves m c

theorem bigSep_W (Φ : Fin cfg0.W → sProp 𝕄) : bigSep Finset.univ Φ = iprop(Φ (0 : Fin 3) ∗ Φ (1 : Fin 3) ∗ Φ (2 : Fin 3)) := bigSep_W0 Φ

theorem body_enters (c : Dev nD) : bodyPre m c ⊢ iprop(∃ K f f', Ph1 m K c 1 ∗ (Mid m c ∗ Rest m c f f')) := by
  unfold bodyPre Φ₀ start Dat.owesAt Pipeline.owesWithin
  simp only [before_x, before_w]
  iintro ⟨⟨⟨%K, HE, Hp, Ht, Hc⟩, ⟨%f0, Hg⟩, ⟨%f1, Ha⟩⟩, ⟨%W, %hW, HO⟩, ⟨%d0, %fx, %hx, Hx⟩, ⟨%d1, %fw, %hw, Hw⟩, ⟨%d2, %fo, %ho, Ho⟩⟩
  subst hx hw
  iexists K
  iexists fo
  iexists f1
  iapply (enter m K c (f := fo) (f0 := f0) (f1 := f1))
  isplitl [HE]; · iexact HE
  isplitl [Hp]; · iexact Hp
  isplitl [Ht]; · iexact Ht
  isplitl [Hc]; · iexact Hc
  isplitl [HO]
  · unfold owing; iexists W; iexact HO
  isplitl [Hx]
  · unfold xAll; iexact Hx
  isplitl [Hw]
  · unfold wPts; iexact Hw
  isplitl [Ho]
  · unfold oPts; iexact Ho
  isplitl [Hg]; · iexact Hg
  iexact Ha

theorem body_sound (c : Dev nD) : Tri c (bodyPre m c)
    (cc0_body xM (Memref.isWhole_whole _) wM (Memref.isWhole_whole _) oM (Memref.isWhole_whole _) gM (Memref.isWhole_whole _) aM (Memref.isWhole_whole _)
      cc0_scratch2 cc0_scratch3 cc0_scratch4 cc0_scratch5) (fun _ => bodyPost m c) := by
  unfold Tri
  refine BIBase.Entails.trans (body_enters m c) ?_
  exact exists_elim fun K => exists_elim fun f => exists_elim fun f' => body_all m K c

set_option maxRecDepth 20000 in
theorem body_obligation (c : Dev nD) : BodyObligation (dats (F := F) m 0 c) (defs₀ (F := F)) 𝒱₀ () Set.univ := fun t => by
  rw [show t = t₀ from fin_N0 t]
  rw [bigSep_W, bigSep_W]
  simp only [owns_whole_eq]
  show bodyPre m c ⊢ wp frame (wpE (defs₀ (F := F)) 𝒱₀ c none) Set.univ
    (cc0_body xM (Memref.isWhole_whole _) wM (Memref.isWhole_whole _) oM (Memref.isWhole_whole _) gM (Memref.isWhole_whole _) aM (Memref.isWhole_whole _)
      cc0_scratch2 cc0_scratch3 cc0_scratch4 cc0_scratch5) (fun _ => bodyPost m c)
  exact body_sound m c

end Cert.Proof.Dist
-- ==== Proof.Launch.lean ====
/-
# The run of all sixteen devices

From any memory with every semaphore at zero, the kernel on sixteen devices terminates, leaves its arguments as they
were, its result at the computed contents and every semaphore at zero. The ghost state of the launch (the schedule's
rounds, its tokens, the invariants' names) is set up here.
-/
module

public import proofs.«01_k».proof.Proof.Point
public import Idealize.ShloMosaic.Lib.Pipeline.CollectiveSegs
public import Idealize.ShloMosaic.Lib.Quiescent

@[expose] public section

noncomputable section

namespace Cert.Proof.Dist

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.ProtocolKit (finFrom finUpTo mem_finFrom bigSep_finFrom_succ bigSep_finFrom_zero)

variable {F : FTy → Type} [FloatOps F]

local notation "𝕄" => MT nD τ sig Unit (Elt F) ℕ UU ℕ

variable (m : (ℓ : Loc nD τ sig) → Buf (Elt F) ℓ) (ρ : Dev nD → PrngReg)

/-! ## The launch's ghost state -/

/-- The kernel's own semaphores. -/
def osem (p : Fin 4 × Fin 16) : SemLoc sig := .dma (xsem p.1 p.2)

theorem ownSemFacts : Pipeline.OwnSemFacts cfg0.spec osem :=
  ⟨by decide +kernel, fun p p' h => Option.some.inj (ksem_injective h), by decide +kernel⟩

def xCells : Finset (GSem nD τ sig) := Finset.univ.map ⟨fun p : Dev nD × Key => kcell p.1 p.2, kcell_injective⟩
def xToks : Finset (GSem nD τ sig × ℕ × Fin 16) := Finset.univ.map ⟨tokOf, tokOf_injective⟩

def u₀ : UU := (initOf (Pipeline.cells cfgs cellOf_inj) (Pipeline.launchToks cfgs cellOf_inj), initOf xCells xToks)

/-- What the launch element deals device `c`, -/
def G (c : Dev nD) : sProp 𝕄 :=
  iprop((bigSep Finset.univ fun k : Key => roundState ER (Rd m) (kcell c k) 0)
    ∗ Positions c ∗ (bigSep Finset.univ fun k : Key => reached ER (kcell c k) 0) ∗ toks c)

/-- and what the global step makes of it. -/
def G' (c : Dev nD) : sProp 𝕄 := iprop(∃ K, records m K ∗ Positions c ∗ payToks c)

theorem fund_cells : BI.own (ER (initOf xCells xToks)) ⊢ (|==> bigSep Finset.univ (G m) : sProp 𝕄) := by
  have hX (Φ : GSem nD τ sig → sProp 𝕄) : bigSep xCells Φ = bigSep Finset.univ fun c : Dev nD => bigSep Finset.univ fun k : Key => Φ (kcell c k) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod, bigSep_univ_prod]
    exact bigSep_congr fun c _ => bigSep_congr fun e _ => by
      rw [bigSep_univ_eq_bigSepL [none, some 0, some 1, some 2, some 3] (by decide) (by decide)]; rfl
  iintro HX
  imod (Rounds.fund ER (Rd m) xCells xToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G Positions; simp only [bigSep_sep']
  isplitl [Hst']; · iexact Hst'
  isplitl [Hat']; · iexact Hat'
  isplitl [Hr']; · iexact Hr'
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem zeros_eq (c : Dev nD) : (Zeros c : sProp 𝕄)
    = iprop(unscopedSems0 c ∗ Pipeline.ownSems0 (Ix := Unit) (Name := ℕ) (U := UU) (Lvl := ℕ) (Val := Elt F) (τ := τ) osem c) := by
  unfold Zeros Pipeline.ownSems0
  rw [unscopedSems0_eq, bigSep_univ_at _ none, show (Finset.univ.erase none : Finset Key) = Finset.univ.map Function.Embedding.some by decide, bigSep_map]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Key => iprop(∃ κ : ℕ, cellInv ER (Rd m) κ (kcell c k)))
          ∗ Positions c ∗ (bigSep Finset.univ fun k : Key => reached ER (kcell c k) 0) ∗ toks c) := by
  unfold G
  iintro ⟨Hos, Hus, Hst, Hat⟩
  ihave Hv := (Entails.of_eq (zeros_eq (F := F) c).symm) $$ [Hos Hus]
  · isplitl [Hus] <;> iassumption
  imod (show iprop(Zeros c ∗ bigSep Finset.univ fun k : Key => roundState ER (Rd m) (kcell c k) 0)
      ⊢ (|={Set.univ}=> bigSep Finset.univ fun k : Key => iprop(∃ κ : ℕ, cellInv ER (Rd m) κ (kcell c k)) : sProp 𝕄) from by
        unfold Zeros
        rw [← bigSep_sep']
        exact (bigSep_mono fun k _ => (Rounds.body_intro ER (Rd m) (kcell c k)).trans inv_alloc).trans (bigSep_fupd _ _)) $$ [Hv Hst] with Hinv
  · isplitl [Hv] <;> iassumption
  imodintro
  isplitl [Hinv]; · iexact Hinv
  iexact Hat

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Key => iprop(∃ κ : ℕ, cellInv ER (Rd m) κ (kcell c k)))
          ∗ Positions c ∗ (bigSep Finset.univ fun k : Key => reached ER (kcell c k) 0) ∗ toks c) : sProp 𝕄)
      ⊢ bigSep Finset.univ (G' m) := by
  rw [bigSep_sep', bigSep_sep', bigSep_sep', ← bigSep_univ_prod (fun p : Dev nD × Key => iprop(∃ κ : ℕ, cellInv ER (Rd m) κ (kcell p.1 p.2))),
    ← bigSep_univ_prod (fun p : Dev nD × Key => (reached ER (kcell p.1 p.2) 0 : sProp 𝕄))]
  iintro ⟨HI, Hat, #HR, Htok⟩
  ihave HK := (BI.bigSep_exists_pi Finset.univ (fun (p : Dev nD × Key) (κ : ℕ) => (cellInv ER (Rd m) κ (kcell p.1 p.2) : sProp 𝕄))) $$ HI
  icases HK with ⟨%K, #HI⟩
  ihave Htk := (toks_around (F := F)) $$ Htok
  iapply (bigSep_with_persistent (F := F) (S := Finset.univ) (R := records m K) (Φ := fun c : Dev nD => iprop(Positions c ∗ payToks c)) (Ψ := G' m) fun c _ => by
    unfold G'; iintro ⟨HR, H⟩; iexists K
    isplitl [HR]; · iexact HR
    iexact H)
  isplitr
  · unfold records; isplitl; · iexact HI
    iexact HR
  · rw [bigSep_sep']
    isplitl [Hat]; · iexact Hat
    iexact Htk

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The theorem's side conditions -/

theorem share_eq (c : Dev nD) (w : Fin cfg0.W) : (dats m 0 c).share w = fullShare := (dats m 0 c).share_full (fun _ => rfl) w

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G' Env
  icases HG with ⟨%K, HR, HP, HT⟩
  isplitl
  · iexists K
    isplitl [HR Hlev]
    · isplitl [HR]; · iexact HR
      iexact Hlev
    isplitl [HP]; · iexact HP
    isplitl [HT]; · iexact HT
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq]
  unfold Φ₁ gAll aAll
  rw [zeros_eq]
  iintro ⟨Hg, Ha, HB, HZ⟩
  isplitl [HB]; · iexact HB
  isplitl [HZ]; · iexact HZ
  isplitl [Hg]
  · iexists (XG m c); iexact Hg
  iexists (AM m c); iexact Ha

theorem kLev_stage : ∀ (w : Fin 3) (s : Fin (cfg0.win w).nbuf), kLev (kind (.dma ((cfg0.win w).sem s))) = 0 := by decide

theorem waits (c : Dev nD) : (levAts L lv : sProp 𝕄) ⊢ Pipeline.cellsWaits cfgs (dats m) () 0 c :=
  Pipeline.cellsWaits_intro cfgs (dats m) () 0 c fun w s t =>
    mayWait c _ _ (by
      rw [show lv ((c : Thread nD τ), SemLoc.dma ((cfg0.win w).sem s)) () = 0 from kLev_stage w s]
      rcases t with ⟨_ | _, ht⟩
      · exact above_O₀ c
      · exact Above.zero 0)

/-! ## The run -/

/-- An array of device `c` when the kernel is through. -/
def finalA (c : Dev nD) (w : Fin cfg0.W) : Buf (Elt F) ((cfg0.win w).arr.view.loc (c : Thread nD τ)) := (dats m 0 c).arrAt w cfg0.N

set_option maxRecDepth 8000 in
theorem run_arrays : θ_run defs (onTc (τ := τ) (main (F := F))) ⟨m, fun _ => 0, ρ⟩ (fun r => (∀ c : Dev nD, ∀ w : Fin cfg0.W,
    r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

theorem index_zero (b : Ref sig .tc) (k : Fin b.ty.shape.rank → ℕ) (h : k = fun _ => 0) : (fun a => k a * b.ty.shape.size a) = fun _ => 0 := by
  rw [h]; exact funext fun a => Nat.zero_mul _

/-- The staged arrays are the arguments, -/
theorem xstg_eq (c : Dev nD) : xstg m c = m ((c : Thread nD τ).loc main_arg0) :=
  Memref.read_access_unit_zero (Elt F) main_arg0 (index_zero main_arg0 _ rfl) (fun a => by fin_cases a <;> decide) _
theorem wstg_eq (c : Dev nD) : wstg m c = m ((c : Thread nD τ).loc main_arg1) :=
  Memref.read_access_unit_zero (Elt F) main_arg1 (index_zero main_arg1 _ rfl) (fun a => by fin_cases a <;> decide) _

/-- and the result's array ends holding what the body left in its staging buffer. -/
theorem finalA_out (c : Dev nD) : finalA m c (2 : Fin 3) = outAt m c := by
  have h : (win0_2.blk (0 : Fin 1)).view.read (Elt F) (finalA m c (2 : Fin 3)) = outAt m c := by
    unfold finalA
    rw [show cfg0.N = ((0 : Fin 1) : Fin cfg0.N).val + 1 from rfl, (dats m 0 c).arrAt_succ (2 : Fin 3) (0 : Fin 1)]
    rw [show (cfg0.win (2 : Fin 3)).flush (0 : Fin 1) = true from by decide, if_pos rfl]
    exact View.read_write_univ _ _
  rw [← h]
  exact (Memref.read_access_unit_zero (Elt F) main_v1 (index_zero main_v1 _ rfl) (fun a => by fin_cases a <;> decide) _).symm

/-- From any memory with every semaphore at zero: the sixteen devices terminate, each result array ends at `outAt`,
    the arguments as they were, every semaphore at zero. -/
theorem run_main : θ_run defs (onTc (τ := τ) (main (F := F))) ⟨m, fun _ => 0, ρ⟩ (fun r => (∀ c : Dev nD,
    r.2.mem ((c : Thread nD τ).loc main_v1) = outAt m c
    ∧ r.2.mem ((c : Thread nD τ).loc main_arg0) = m ((c : Thread nD τ).loc main_arg0)
    ∧ r.2.mem ((c : Thread nD τ).loc main_arg1) = m ((c : Thread nD τ).loc main_arg1)) ∧ r.2.sem = fun _ => 0) :=
  (θ_run defs _ _).mono (fun r h => ⟨fun c => ⟨(h.1 c (2 : Fin 3)).trans (finalA_out m c),
    (h.1 c (0 : Fin 3)).trans ((dats (F := F) m 0 c).arrAt_in (0 : Fin 3) rfl _),
    (h.1 c (1 : Fin 3)).trans ((dats (F := F) m 0 c).arrAt_in (1 : Fin 3) rfl _)⟩, h.2⟩) (run_arrays m ρ)

end Cert.Proof.Dist
-- ==== Proof.Frames.lean ====
/-
# The three programs run and change nothing but their results
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

section

open Cert.KernelIdeal

variable {F : FTy → Type} [FloatOps F]

/-- Over any float values the kernel leaves its arguments as they were and every counter at zero. -/
theorem frame_any (m : (ℓ : Loc nD τ sig) → Buf (Elt F) ℓ) (ρ : Dev nD → PrngReg) :
    θ_run defs (onTc (τ := τ) (main (F := F))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun _ h => ⟨fun c => (h.1 c).2, h.2⟩) (Dist.run_main m ρ)

end

/-- The body tables of the two texts are the same, label by label. -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

/-- So are the tables with the pipeline's own labels. -/
theorem defs_eq : Cert.Kernel.defs (F := Bits) = Cert.KernelIdeal.defs (F := Bits) := by
  unfold Cert.Kernel.defs Cert.KernelIdeal.defs
  rw [defs₀_eq]
  rfl

/-- The kernel at the chip's numbers is the same text as at the ideal ones, so its run is the same. -/
theorem frame_kernel : Cert.quiescent_Kernel := fun m ρ _ => by
  rw [defs_eq]
  exact frame_any (F := Bits) m ρ

/-- The kernel at the ideal numbers. -/
theorem frame_kernelIdeal : Cert.quiescent_KernelIdeal := fun m ρ _ => frame_any (F := Ideal) m ρ

/-- The reference declares no semaphore, and its run leaves its arguments alone. -/
theorem frame_referenceIdeal : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

end Cert.Proof
-- ==== Proof.Whole.lean ====
/-
# The function, and that the reference computes it

Over the extended reals: the product of the whole arrays, its relu, the largest entry of the relu, the scale, and the
entry quantised to a multiple of the scale.
-/
module

public import proofs.«01_k».proof.Proof.Gen.ReferenceIdeal
public import Idealize.ShloMosaic.Lib.Pointwise

@[expose] public section

noncomputable section

namespace Cert.Proof.Dist

open Idealize.ShloMosaic

/-- The whole left operand, -/
abbrev XArr : Type := FVec Ideal ⟨2, ![4096, 4096]⟩ .f32
/-- the right one, which is also the type of the result. -/
abbrev WArr : Type := FVec Ideal ⟨2, ![4096, 2048]⟩ .f32

/-- Entry `(r, n)` of the relu of the product. -/
def relu (X : XArr) (W : WArr) (r : Fin 4096) (n : Fin 2048) : Ideal .f32 :=
  max (∑ k : Fin 4096, X (ix2 r k) * W (ix2 k n)) 0

theorem relu_nonneg (X : XArr) (W : WArr) (r : Fin 4096) (n : Fin 2048) : (0 : EReal) ≤ relu X W r n := le_max_right _ _

/-- The relu of the product as an array. -/
def reluArr (X : XArr) (W : WArr) : WArr := fun i => relu X W (i 0) (i 1)

/-- What a maximum starts from. -/
abbrev low : Ideal .f32 := Ideal.ofBits .f32 0xFF800000#32

/-- The largest entry of an array of any shape. -/
def top {s : Shape} (v : FVec Ideal s .f32) : Ideal .f32 := Finset.univ.fold max low v

theorem top_le {s : Shape} (v : FVec Ideal s .f32) (t : Ideal .f32) :
    top v ≤ t ↔ low ≤ t ∧ ∀ i, v i ≤ t := by
  unfold top
  rw [Finset.fold_max_le]
  exact and_congr_right fun _ => forall_congr' fun i => ⟨fun h => h (Finset.mem_univ i), fun h _ => h⟩

/-- Reducing every axis takes the largest entry: the host's operation, -/
theorem hostMax_eq {s t u : Shape} {axes : List (Fin s.rank)} [Subsingleton t.Idx] (v : FVec Ideal s .f32) (init : u.Idx → Ideal .f32)
    (h : s.ReducesTo axes t) (hu : 0 < u.numel) (hi : init (Shape.Idx.first hu) = low) (j : t.Idx) :
    Host.reduce FloatOps.maximumf v init h hu j = top v := by
  rw [Host.reduce_eq_fold, Finset.filter_true_of_mem fun i _ => Subsingleton.elim _ _, hi]
  rfl

/-- and the kernel's. -/
theorem kernelMax_eq {s t : Shape} {axes : List (Fin s.rank)} [Subsingleton t.Idx] (v : FVec Ideal s .f32)
    (h : s.Reduces axes t) (hφ : FKind.Formats .f32) (ha : 0xFF800000#32 = FKind.maximumf.neutral .f32 hφ) (j : t.Idx) :
    multiReduction .maximumf axes t v 0xFF800000#32 h hφ ha j = top v := by
  rw [multiReduction_maximumf_eq_fold, Finset.filter_true_of_mem fun i _ => Subsingleton.elim _ _]
  rfl

/-- An entry quantised with the common scale, of which `a` is 127 times. -/
def quant (a y : Ideal .f32) : Ideal .f32 :=
  min (Ideal.ofBits .f32 0x42FE0000#32) (max (Ideal.ofBits .f32 0xC2FE0000#32)
    (Ideal.liftRound Ideal.roundHalfEven (Ideal.div y (Ideal.div a (Ideal.ofBits .f32 0x42FE0000#32)))))
    * Ideal.div a (Ideal.ofBits .f32 0x42FE0000#32)

/-- The whole result. -/
def result (X : XArr) (W : WArr) : WArr := fun i => quant (top (reluArr X W)) (reluArr X W i)

section

open Cert.ReferenceIdeal Cert.ReferenceIdeal.Gen

/-- The reference's relu of its product, -/
abbrev refRelu (X : XArr) (W : WArr) : FVec Ideal S4096x2048 .f32 :=
  maximumf (Host.dotGeneral dot_S4096x4096_S4096x2048_S4096x2048_1_0_0_1_n_n none X W)
    (broadcastInDim S4096x2048 ![] bcast_S_S4096x2048 (constant S_ .f32 0x00000000#32))

theorem refRelu_eq (X : XArr) (W : WArr) : refRelu X W = reluArr X W := by
  funext i
  obtain ⟨r, n, rfl⟩ : ∃ (r : Fin 4096) (n : Fin 2048), i = ix2 r n := ⟨i 0, i 1, eq_ix2 i⟩
  unfold refRelu reluArr relu
  pointwise

/-- its scale, -/
abbrev refScale (V : FVec Ideal S4096x2048 .f32) : FVec Ideal S_ .f32 :=
  Host.divf (Host.reduce FloatOps.maximumf (Host.absf V) (constant S_ .f32 0xFF800000#32) reducesTo_S4096x2048_S_d0_1 h_S_)
    (constant S_ .f32 0x42FE0000#32)

/-- and its result, of the relu. -/
abbrev refQuant (V : FVec Ideal S4096x2048 .f32) : FVec Ideal S4096x2048 .f32 :=
  mulf (minimumf (broadcastInDim S4096x2048 ![] bcast_S_S4096x2048 (id (constant S_ .f32 0x42FE0000#32)))
    (maximumf (broadcastInDim S4096x2048 ![] bcast_S_S4096x2048 (id (constant S_ .f32 0xC2FE0000#32)))
      (Host.roundeven (Host.divf V (broadcastInDim S4096x2048 ![] bcast_S_S4096x2048 (refScale V))))))
    (broadcastInDim S4096x2048 ![] bcast_S_S4096x2048 (refScale V))

/-- The reference's largest magnitude is the largest entry, since no entry of the relu is below zero. -/
theorem refScale_apply (X : XArr) (W : WArr) (j : S_.Idx) :
    refScale (reluArr X W) j = Ideal.div (top (reluArr X W)) (Ideal.ofBits .f32 0x42FE0000#32) := by
  have ha : Host.absf (reluArr X W) = reluArr X W := funext fun i =>
    max_eq_left ((EReal.neg_le_neg_iff.2 (relu_nonneg X W _ _)).trans (by rw [neg_zero]; exact relu_nonneg X W _ _))
  have : Subsingleton S_.Idx := ⟨fun a b => funext fun i => i.elim0⟩
  have hm := hostMax_eq (Host.absf (reluArr X W)) (constant S_ .f32 0xFF800000#32) reducesTo_S4096x2048_S_d0_1 h_S_ rfl j
  rw [ha] at hm
  unfold refScale
  rw [ha]
  exact congrArg (fun a => Ideal.div a (Ideal.ofBits .f32 0x42FE0000#32)) hm

theorem refQuant_eq (X : XArr) (W : WArr) : refQuant (reluArr X W) = result X W := by
  funext i
  show min _ (max _ (Ideal.liftRound Ideal.roundHalfEven (Ideal.div (reluArr X W i) (refScale (reluArr X W) _)))) * refScale (reluArr X W) _ = _
  rw [refScale_apply]
  rfl

/-- The reference's result is the function of its arguments. -/
theorem ref_eq (X : XArr) (W : WArr) : refQuant (refRelu X W) = result X W := by rw [refRelu_eq, refQuant_eq]

end

end Cert.Proof.Dist
-- ==== Proof.Blocks.lean ====
/-
# What one device's arrays hold, over the extended reals

A device's four chunked products add up to its 256 rows of the whole product, its maximum is the largest entry of those
rows' relu, and the maxima exchanged have the largest entry of the whole relu as their maximum. So each device's result
is its block of the whole one.
-/
module

public import proofs.«01_k».proof.Proof.Whole
public import proofs.«01_k».proof.Proof.Sched

@[expose] public section

noncomputable section

namespace Cert.Proof.Dist

open Cert.KernelIdeal Cert.KernelIdeal.Gen
open Idealize.ShloMosaic Idealize.ShloMosaic.TcCoe

/-- A sum of 4096 terms is the sum of its four quarters. -/
theorem sum_quarters (f : Fin 4096 → EReal) :
    ∑ k, f k = (∑ k : Fin 1024, f ⟨0 + k.val, by omega⟩) + (∑ k : Fin 1024, f ⟨1024 + k.val, by omega⟩)
      + (∑ k : Fin 1024, f ⟨2048 + k.val, by omega⟩) + ∑ k : Fin 1024, f ⟨3072 + k.val, by omega⟩ := by
  rw [Fin.sum_univ_add (a := 3072) (b := 1024) f, Fin.sum_univ_add (a := 2048) (b := 1024), Fin.sum_univ_add (a := 1024) (b := 1024)]
  refine congrArg₂ _ (congrArg₂ _ (congrArg₂ _ ?_ ?_) ?_) ?_ <;>
    exact Finset.sum_congr rfl fun k _ => congrArg f (Fin.ext (by simp [add_comm]))

/-! ## The payloads at an index -/

section

variable (a : Vec Ideal S256x1024 .f32) (b : Vec Ideal S1024x2048 .f32) (p : Vec Ideal S256x2048 .f32) (r : Fin 256) (n : Fin 2048)

theorem pay2_apply : k0_pay2 a b (ix2 r n) = ∑ k : Fin 1024, a (ix2 r k) * b (ix2 k n) := by pointwise [k0_pay2]
theorem pay3_apply : k0_pay3 a b p (ix2 r n) = p (ix2 r n) + ∑ k : Fin 1024, a (ix2 r k) * b (ix2 k n) := by pointwise [k0_pay3]
theorem pay4_apply : k0_pay4 a b p (ix2 r n) = p (ix2 r n) + ∑ k : Fin 1024, a (ix2 r k) * b (ix2 k n) := by pointwise [k0_pay4]
theorem pay5_apply : k0_pay5 a b (ix2 r n) = ∑ k : Fin 1024, a (ix2 r k) * b (ix2 k n) := by pointwise [k0_pay5]
theorem pay6_apply (a' : FVec Ideal S256x2048 .f32) : k0_pay6 a' p (ix2 r n) = p (ix2 r n) + a' (ix2 r n) := by pointwise [k0_pay6]
theorem pay7_apply : k0_pay7 p (ix2 r n) = max (p (ix2 r n)) 0 := by pointwise [k0_pay7]

end

/-! ## The maxima -/

/-- Reshaping an array does not change its largest entry. -/
theorem top_shapeCast {s t : Shape} (v : FVec Ideal s .f32) (h : s.ShapeCasts t) : top (shapeCast t v h) = top v :=
  eq_of_forall_ge_iff fun u => by
    rw [top_le, top_le]
    refine and_congr_right fun _ => ⟨fun H i => ?_, fun H i => H _⟩
    have := H ((Shape.reshapeEquiv h).symm i)
    unfold shapeCast at this
    rwa [Equiv.apply_symm_apply] at this

instance : Subsingleton S1.Idx := ⟨fun a b => funext fun i => Fin.ext (by
  have ha : (a i).val < 1 := by fin_cases i; exact (a 0).isLt
  have hb : (b i).val < 1 := by fin_cases i; exact (b 0).isLt
  omega)⟩

/-- The maximum a device computes is the largest entry of its relu, in every place of its slot. -/
theorem pay8_apply (v : Vec Ideal S256x2048 .f32) (i : S1x8x128.Idx) : k0_pay8 v i = top (k0_pay7 v) := by
  have hm := fun j => (kernelMax_eq (shapeCast S1x256x2048 (k0_pay7 v) shapeCasts_S256x2048_S1x256x2048) reduces_S1x256x2048_S1 (.inl rfl) rfl j).trans (top_shapeCast _ _)
  unfold k0_pay8
  rw [funext hm]
  rfl

/-- The result is quantised with the largest of the maxima it is given. -/
theorem pay1_apply (A : Vec Ideal S16x8x128 .f32) (v : Vec Ideal S256x2048 .f32) (i : S256x2048.Idx) :
    k0_pay1 A v i = quant (top A) (v i) := by
  have hm := fun j => (kernelMax_eq (shapeCast S1x16x8x128 A shapeCasts_S16x8x128_S1x16x8x128) reduces_S1x16x8x128_S1 (.inl rfl) rfl j).trans (top_shapeCast _ _)
  obtain ⟨r, n, rfl⟩ : ∃ (r : Fin 256) (n : Fin 2048), i = ix2 r n := ⟨i 0, i 1, eq_ix2 i⟩
  unfold k0_pay1
  rw [funext hm]
  pointwise [quant]

variable (m : (ℓ : Loc nD τ sig) → Buf (Elt Ideal) ℓ)

/-! ## The chunks a device loads -/

/-- Entry `(r, k)` of columns `o` to `o + 1024` of what arrived. -/
theorem loadG_apply (o : ℕ) (ho : o + 1024 ≤ 4096) (hb : ∀ a, (![0, o] : Fin 2 → ℕ) a + S256x1024.size a ≤ S256x4096.size a)
    (G : S256x4096.Idx → Ideal .f32) (r : Fin 256) (k : Fin 1024) :
    gM.view.readAt (Elt Ideal) (Rect.unit (s := S256x4096) ![0, o] S256x1024.size hb).toLoadRect G (ix2 r k)
      = G (ix2 r (⟨o + k.val, by omega⟩ : Fin 4096)) :=
  congrArg G (funext fun a => Fin.ext (by
    fin_cases a
    · show 0 + 1 * r.val = r.val; omega
    · show o + 1 * k.val = o + k.val; omega))

/-- Entry `(k, n)` of rows `o` to `o + 1024` of `w`. -/
theorem loadW_apply (o : ℕ) (ho : o + 1024 ≤ 4096) (hb : ∀ a, (![o, 0] : Fin 2 → ℕ) a + S1024x2048.size a ≤ S4096x2048.size a)
    (G : S4096x2048.Idx → Ideal .f32) (k : Fin 1024) (n : Fin 2048) :
    wM.view.readAt (Elt Ideal) (Rect.unit (s := S4096x2048) ![o, 0] S1024x2048.size hb).toLoadRect G (ix2 k n)
      = G (ix2 (⟨o + k.val, by omega⟩ : Fin 4096) n) :=
  congrArg G (funext fun a => Fin.ext (by
    fin_cases a
    · show o + 1 * k.val = o + k.val; omega
    · show 0 + 1 * n.val = n.val; omega))

/-! ## The product, the maximum and the result -/

/-- Sixteen blocks of 256 columns tile the left operand, -/
theorem tiles_x : Layout.Tiles ⟨2, ![4096, 256]⟩ ⟨2, ![4096, 4096]⟩ 1 16 := by decide
/-- and sixteen blocks of 256 rows the result. -/
theorem tiles_out : Layout.Tiles ⟨2, ![256, 2048]⟩ ⟨2, ![4096, 2048]⟩ 0 16 := by decide

/-- Row `r` of block `c`. -/
def row (c : Dev nD) (r : Fin 256) : Fin 4096 := ⟨c.val * 256 + r.val, by have h : c.val < 16 := c.isLt; omega⟩

section

variable (X : XArr) (W : WArr)
variable (hx : ∀ c, xstg m c = Layout.block ⟨2, ![4096, 256]⟩ ⟨2, ![4096, 4096]⟩ 1 16 c X tiles_x) (hw : ∀ c, wstg m c = W)

include hx

/-- What arrives on device `c` is its 256 rows of `x`. -/
theorem XG_apply (c : Dev nD) (r : Fin 256) (j : Fin 4096) : XG m c (ix2 r j) = X (ix2 (row c r) j) := by
  show xstg m _ _ = _
  rw [hx]
  refine congrArg X (funext fun a => Fin.ext ?_)
  rw [Layout.Tiles.idx_val]
  fin_cases a
  · show 256 * c.val + r.val = c.val * 256 + r.val; omega
  · show j.val / 256 * 256 + j.val % 256 = j.val; omega

include hw

/-- Device `c`'s accumulated products are its rows of the whole product. -/
theorem acc₃_apply (c : Dev nD) (r : Fin 256) (n : Fin 2048) :
    acc₃ m c (ix2 r n) = ∑ k : Fin 4096, X (ix2 (row c r) k) * W (ix2 k n) := by
  unfold acc₃ acc₂ acc₁ acc₀
  rw [pay6_apply, pay5_apply, pay4_apply, pay3_apply, pay2_apply,
    sum_quarters fun k => X (ix2 (row c r) k) * W (ix2 k n)]
  simp only [hw, loadG_apply 0 (by decide), loadG_apply 1024 (by decide), loadG_apply 2048 (by decide), loadG_apply 3072 (by decide),
    loadW_apply 0 (by decide), loadW_apply 1024 (by decide), loadW_apply 2048 (by decide), loadW_apply 3072 (by decide), XG_apply m X hx]

/-- Its relu is its rows of the whole relu, -/
theorem relu_block (c : Dev nD) :
    k0_pay7 (acc₃ m c) = Layout.block ⟨2, ![256, 2048]⟩ ⟨2, ![4096, 2048]⟩ 0 16 c (reluArr X W) tiles_out := by
  funext i
  obtain ⟨r, n, rfl⟩ : ∃ (r : Fin 256) (n : Fin 2048), i = ix2 r n := ⟨i 0, i 1, eq_ix2 i⟩
  rw [pay7_apply, acc₃_apply m X W hx hw]
  rfl

omit hx hw in
/-- The distance back from a device to the one at a distance is that distance. -/
theorem before_before : ∀ c d : Fin 16, before c (before c d) = d := by decide

/-- and the largest of the sixteen maxima it holds is the largest entry of the whole relu. -/
theorem AM_top (c : Dev nD) : top (s := S16x8x128) (AM m c) = top (reluArr X W) :=
  eq_of_forall_ge_iff fun u => by
    rw [top_le, top_le]
    refine and_congr_right fun hu => ⟨fun H i => ?_, fun H i => ?_⟩
    · obtain ⟨r, n, rfl⟩ : ∃ (r : Fin 4096) (n : Fin 2048), i = ix2 r n := ⟨i 0, i 1, eq_ix2 i⟩
      have h := H (ix3 (before c (⟨r.val / 256, by omega⟩ : Fin 16)) (0 : Fin 8) (0 : Fin 128))
      unfold AM at h
      rw [pay8_apply, relu_block m X W hx hw, top_le] at h
      have h := h.2 (ix2 (⟨r.val % 256, Nat.mod_lt _ (by decide)⟩ : Fin 256) n)
      rw [show before c (ix3 (before c (⟨r.val / 256, by omega⟩ : Fin 16)) (0 : Fin 8) (0 : Fin 128) 0) = (⟨r.val / 256, by omega⟩ : Fin 16)
        from before_before c _, Layout.block_apply] at h
      refine le_of_eq_of_le (congrArg (reluArr X W) (funext fun a => Fin.ext ?_)) h
      rw [Layout.Tiles.idx_val]
      fin_cases a
      · show r.val = r.val / 256 * 256 + r.val % 256; omega
      · rfl
    · unfold AM
      rw [pay8_apply, relu_block m X W hx hw, top_le]
      exact ⟨hu, fun j => H _⟩

/-- So each device's result is its block of the whole result. -/
theorem outAt_eq (c : Dev nD) :
    outAt m c = Layout.block ⟨2, ![256, 2048]⟩ ⟨2, ![4096, 2048]⟩ 0 16 c (result X W) tiles_out := by
  funext i
  unfold outAt
  rw [pay1_apply, AM_top m X W hx hw, relu_block m X W hx hw]
  rfl

end

end Cert.Proof.Dist
-- ==== Proof.Equation.lean ====
/-
# The kernel computes the reference

From arguments that are the devices' blocks of the reference's, each device ends with its block of the reference's
result.
-/
module

public import proofs.«01_k».proof.Defs
public import proofs.«01_k».proof.Proof.Launch
public import proofs.«01_k».proof.Proof.Blocks
public import proofs.«01_k».proof.Proof.Gen.ReferenceIdeal.Run

@[expose] public section

noncomputable section

namespace Cert.Proof

open Idealize.ShloMosaic Idealize.SL.Sem

/-- From blocks of the same arrays, every device's result is its block of the reference's. -/
theorem algebraic : Cert.algebraic_KernelIdeal_ReferenceIdeal := fun m g m' g' _ hin => by
  have hx := fun c => (Dist.xstg_eq m c).trans (hin c).1
  have hw := fun c => (Dist.wstg_eq m c).trans (hin c).2
  refine ⟨Dist.result _ _,
    (θ_run Cert.KernelIdeal.defs _ _).mono (fun _ h c => ⟨(h.1 c).1.trans (Dist.outAt_eq m _ _ hx hw c), (h.1 c).2⟩) (Dist.run_main (F := Ideal) m g),
    (θ_run Cert.ReferenceIdeal.defs _ _).mono (fun _ h => ⟨(h 0).1.trans (Dist.ref_eq _ _), (h 0).2⟩) (Cert.ReferenceIdeal.Value.run (F := Ideal) m' g')⟩

end Cert.Proof
-- ==== Proof.lean ====
/-
# The certificate

The frames are in `Frames`, the value claim in `Equation`; `preserves` has nothing to say, since no operation of the
kernel is rewritten for the reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Equation

@[expose] public section

noncomputable section

namespace Cert.Proof

open Idealize.ShloMosaic Idealize.SL.Sem

/-- All five claims: three frames, `preserves` and `algebraic`. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
